-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "eps" .bf16 0x0DA2#16 ((332307 / 332306998946228968225951765070086144 : ℝ) : EReal)
  ∧ IdealRules.named_const.Statement Cert.KernelIdeal.κ "eps" .f32 0x0DA24260#32 ((332307 / 332306998946228968225951765070086144 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x32x1024x1024 : Shape := ⟨4, ![4, 32, 1024, 1024]⟩
abbrev S4x1024x1024 : Shape := ⟨3, ![4, 1024, 1024]⟩
abbrev S1x32x128x1024 : Shape := ⟨4, ![1, 32, 128, 1024]⟩
abbrev S1x32x8x1024 : Shape := ⟨4, ![1, 32, 8, 1024]⟩
abbrev S1x128x1024 : Shape := ⟨3, ![1, 128, 1024]⟩
abbrev S1x1024 : Shape := ⟨2, ![1, 1024]⟩
abbrev S1x1x128x1024 : Shape := ⟨4, ![1, 1, 128, 1024]⟩
abbrev S128x1024 : Shape := ⟨2, ![128, 1024]⟩
abbrev S1x1x1x1024 : Shape := ⟨4, ![1, 1, 1, 1024]⟩
abbrev S1x1x1024 : Shape := ⟨3, ![1, 1, 1024]⟩
abbrev S1x2x1024 : Shape := ⟨3, ![1, 2, 1024]⟩
abbrev S1024 : Shape := ⟨1, ![1024]⟩
abbrev S1024x1 : Shape := ⟨2, ![1024, 1]⟩
abbrev S1024x1024 : Shape := ⟨2, ![1024, 1024]⟩
abbrev S_ : Shape := ⟨0, ![]⟩
abbrev S1x1024x1024 : Shape := ⟨3, ![1, 1024, 1024]⟩

abbrev nBuf : Space → Nat
  | .hbm => 14
  | .vmem => 11
  | .smem => 0
  | _ => 0

abbrev bufTy : (tb : Table) → Fin (tcTables nBuf tb) → BufTy
  | .hbm, ⟨0, _⟩ => ⟨S4x32x1024x1024, .f32⟩
  | .hbm, ⟨1, _⟩ => ⟨S4x1024x1024, .bf16⟩
  | .hbm, ⟨2, _⟩ => ⟨S1024, .i32⟩
  | .hbm, ⟨3, _⟩ => ⟨S1024x1, .i32⟩
  | .hbm, ⟨4, _⟩ => ⟨S1x1024, .i32⟩
  | .hbm, ⟨5, _⟩ => ⟨S1024x1024, .i32⟩
  | .hbm, ⟨6, _⟩ => ⟨S1024x1024, .i32⟩
  | .hbm, ⟨7, _⟩ => ⟨S1024x1024, .i32⟩
  | .hbm, ⟨8, _⟩ => ⟨S1024x1024, .i32⟩
  | .hbm, ⟨9, _⟩ => ⟨S_, .i32⟩
  | .hbm, ⟨10, _⟩ => ⟨S1024x1024, .i32⟩
  | .hbm, ⟨11, _⟩ => ⟨S1024x1024, .i1⟩
  | .hbm, ⟨12, _⟩ => ⟨S1024x1024, .bf16⟩
  | .hbm, ⟨13, _⟩ => ⟨S4x1024x1024, .f32⟩
  | .local _ .vmem, ⟨0, _⟩ => ⟨S1x32x128x1024, .f32⟩
  | .local _ .vmem, ⟨1, _⟩ => ⟨S1x32x128x1024, .f32⟩
  | .local _ .vmem, ⟨2, _⟩ => ⟨S1x32x8x1024, .f32⟩
  | .local _ .vmem, ⟨3, _⟩ => ⟨S1x32x8x1024, .f32⟩
  | .local _ .vmem, ⟨4, _⟩ => ⟨S1x128x1024, .bf16⟩
  | .local _ .vmem, ⟨5, _⟩ => ⟨S1x128x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1024x1024, .bf16⟩
  | .local _ .vmem, ⟨9, _⟩ => ⟨S1x1024x1024, .f32⟩
  | .local _ .vmem, ⟨10, _⟩ => ⟨S1x1024x1024, .f32⟩
  | _, _ => ⟨S4x32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_c : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨2, ![32, 1], ![false, false]⟩

def cc0_transform_0 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg1.toNat, v26.toNat, c0_i32_10.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.muli v26 c16_i32
  let c1_i32_10 : BitVec 32 := 1#32
  let v28 : BitVec 32 := Scalar.subi v27 c1_i32_10
  let c0_i32_11 : BitVec 32 := 0#32
  let v29 : BitVec 32 := Scalar.maxsi v28 c0_i32_11
  let c0_i32_12 : BitVec 32 := 0#32
  let c0_i32_13 : BitVec 32 := 0#32
  ![v16.toNat, arg1.toNat, v29.toNat, c0_i32_12.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S1x32x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== KernelIdeal.lean ====
variable {F : FTy → Type} [FloatOps F] [Named F]
def κ : String → Option EReal := fun
  | "eps" => some ((332307 / 332306998946228968225951765070086144 : ℝ) : EReal)
  | _ => none
-- ==== ReferenceIdeal.lean ====
abbrev S4x32x1024x1024 : Shape := ⟨4, ![4, 32, 1024, 1024]⟩
abbrev S_ : Shape := ⟨0, ![]⟩
abbrev S4x32x1024x1025 : Shape := ⟨4, ![4, 32, 1024, 1025]⟩
abbrev S4x32x1025x1024 : Shape := ⟨4, ![4, 32, 1025, 1024]⟩
abbrev S4x1024x1024 : Shape := ⟨3, ![4, 1024, 1024]⟩
abbrev S4x1024x1074 : Shape := ⟨3, ![4, 1024, 1074]⟩
abbrev S4x1024x1 : Shape := ⟨3, ![4, 1024, 1]⟩
abbrev S4x1024x1075 : Shape := ⟨3, ![4, 1024, 1075]⟩

abbrev nBuf : Space → Nat
  | .hbm => 47
  | .vmem => 0
  | .smem => 0
  | _ => 0

abbrev bufTy : (tb : Table) → Fin (tcTables nBuf tb) → BufTy
  | .hbm, ⟨0, _⟩ => ⟨S4x32x1024x1024, .f32⟩
  | .hbm, ⟨1, _⟩ => ⟨S_, .i32⟩
  | .hbm, ⟨2, _⟩ => ⟨S_, .f32⟩
  | .hbm, ⟨3, _⟩ => ⟨S4x32x1024x1025, .f32⟩
  | .hbm, ⟨4, _⟩ => ⟨S4x32x1024x1024, .f32⟩
  | .hbm, ⟨5, _⟩ => ⟨S_, .i32⟩
  | .hbm, ⟨6, _⟩ => ⟨S_, .f32⟩
  | .hbm, ⟨7, _⟩ => ⟨S4x32x1025x1024, .f32⟩
  | .hbm, ⟨8, _⟩ => ⟨S4x32x1024x1024, .f32⟩
  | .hbm, ⟨9, _⟩ => ⟨S4x32x1024x1024, .f32⟩
  | .hbm, ⟨10, _⟩ => ⟨S4x32x1024x1024, .f32⟩
  | .hbm, ⟨11, _⟩ => ⟨S4x32x1024x1024, .f32⟩
  | .hbm, ⟨12, _⟩ => ⟨S4x32x1024x1024, .f32⟩
  | .hbm, ⟨13, _⟩ => ⟨S4x32x1024x1024, .f32⟩
  | .hbm, ⟨14, _⟩ => ⟨S_, .f32⟩
  | .hbm, ⟨15, _⟩ => ⟨S4x32x1024x1024, .f32⟩
  | .hbm, ⟨16, _⟩ => ⟨S4x32x1024x1024, .f32⟩
  | .hbm, ⟨17, _⟩ => ⟨S4x32x1024x1024, .f32⟩
  | .hbm, ⟨18, _⟩ => ⟨S4x32x1024x1024, .f32⟩
  | .hbm, ⟨19, _⟩ => ⟨S_, .f32⟩
  | .hbm, ⟨20, _⟩ => ⟨S4x1024x1024, .f32⟩
  | .hbm, ⟨21, _⟩ => ⟨S_, .i32⟩
  | .hbm, ⟨22, _⟩ => ⟨S_, .f32⟩
  | .hbm, ⟨23, _⟩ => ⟨S4x1024x1074, .f32⟩
  | .hbm, ⟨24, _⟩ => ⟨S_, .f32⟩
  | .hbm, ⟨25, _⟩ => ⟨S_, .f32⟩
  | .hbm, ⟨26, _⟩ => ⟨S4x1024x1074, .f32⟩
  | .hbm, ⟨27, _⟩ => ⟨S_, .f32⟩
  | .hbm, ⟨28, _⟩ => ⟨S4x1024x1, .f32⟩
  | .hbm, ⟨29, _⟩ => ⟨S4x1024x1075, .f32⟩
  | .hbm, ⟨30, _⟩ => ⟨S4x1024x1024, .f32⟩
  | .hbm, ⟨31, _⟩ => ⟨S4x1024x1024, .f32⟩
  | .hbm, ⟨32, _⟩ => ⟨S4x1024x1024, .f32⟩
  | .hbm, ⟨33, _⟩ => ⟨S4x1024x1024, .f32⟩
  | .hbm, ⟨34, _⟩ => ⟨S_, .i32⟩
  | .hbm, ⟨35, _⟩ => ⟨S_, .f32⟩
  | .hbm, ⟨36, _⟩ => ⟨S4x1024x1074, .f32⟩
  | .hbm, ⟨37, _⟩ => ⟨S_, .f32⟩
  | .hbm, ⟨38, _⟩ => ⟨S_, .f32⟩
  | .hbm, ⟨39, _⟩ => ⟨S4x1024x1074, .f32⟩
  | .hbm, ⟨40, _⟩ => ⟨S_, .f32⟩
  | .hbm, ⟨41, _⟩ => ⟨S4x1024x1, .f32⟩
  | .hbm, ⟨42, _⟩ => ⟨S4x1024x1075, .f32⟩
  | .hbm, ⟨43, _⟩ => ⟨S4x1024x1024, .f32⟩
  | .hbm, ⟨44, _⟩ => ⟨S4x1024x1024, .f32⟩
  | .hbm, ⟨45, _⟩ => ⟨S4x1024x1024, .f32⟩
  | .hbm, ⟨46, _⟩ => ⟨S4x1024x1024, .f32⟩
  | _, _ => ⟨S4x32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_call1_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_c_2 : Ref sig .tc := ⟨.hbm, 21, rfl⟩
abbrev main_call2_v0 : Ref sig .tc := ⟨.hbm, 22, rfl⟩
abbrev main_v14 : Ref sig .tc := ⟨.hbm, 23, rfl⟩
abbrev main_call3_call0_cst : Ref sig .tc := ⟨.hbm, 24, rfl⟩
abbrev main_call3_call0_v0 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_call4_v0 : Ref sig .tc := ⟨.hbm, 35, rfl⟩
abbrev main_v22 : Ref sig .tc := ⟨.hbm, 36, rfl⟩
abbrev main_call5_call0_cst : Ref sig .tc := ⟨.hbm, 37, rfl⟩
abbrev main_call5_call0_v0 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]
-- ==== Proof.IdealBody.lean ====
/-
  The two kernel bodies: what each leaves in its result's staging buffer, the proof data of the two pipelines
  and their body obligations, at whatever contents `V` the buffers have when the region is entered.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## Region 0: the gradient, summed over the channels -/

/-- The block of region 0's window `w` at point `t`: read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Whatever the proof data, the first input's staging buffer holds its block when the body starts. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for the second input of region 0, the strip of eight rows above the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The test of the body's first branch: the channel coordinate is zero. -/
abbrev Cond0 (i : grid0.Coords) : Prop :=
  Scalar.cmpi .ne (Scalar.extui (Scalar.cmpi .eq (BitVec.ofNat 32 (i 1).val) 0#32)) 0#32 = 1#1
/-- The test of the body's second branch: the channel coordinate is positive. -/
abbrev Cond1 (i : grid0.Coords) : Prop :=
  Scalar.cmpi .ne (Scalar.extui (Scalar.cmpi .sgt (BitVec.ofNat 32 (i 1).val) 0#32)) 0#32 = 1#1

/-- The channel axis of the grid has one step, so the first branch is taken at every point, -/
theorem cond0 (i : grid0.Coords) : Cond0 i := by
  unfold Cond0; rw [show (i 1).val = 0 from Nat.lt_one_iff.mp (i 1).isLt]; decide
/-- and the second at none. -/
theorem cond1 (i : grid0.Coords) : ¬ Cond1 i := by
  unfold Cond1; rw [show (i 1).val = 0 from Nat.lt_one_iff.mp (i 1).isLt]; decide

/-- No window of region 0 is idle at any point. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := by decide +kernel

/-- A staging buffer of region 0's result, through which the contents the body leaves are stated. -/
abbrev VO0_2 : View sig .tc .vmem S1x128x1024 .bf16 := (Memref.whole cc0_stg2_0 : Memref sig .tc .vmem S1x128x1024 .bf16).view
/-- The staging memrefs of region 0 at point `t`, and that each is whole. -/
abbrev ms0_0 (t : Fin cfg0.N) : Memref sig .tc .vmem S1x32x128x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x32x8x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x1024 .bf16 := win0_2.stage (cfg0.slots t 2)
abbrev hs0_2 (t : Fin cfg0.N) : (ms0_2 t).IsWhole := hstage0_2 ((cfg0.slots t 2).cast nbuf0_2)

set_option maxHeartbeats 1000000 in
/-- The body of region 0 on whole staging buffers runs, gives the inputs' back as they were, and leaves in the
    result's the two stores it makes: the whole block, then its first two rows with row 0 corrected. -/
noncomputable def kernelRun0 (c : Dev nD) (i : grid0.Coords) (arg2 : Memref sig .tc .vmem S1x32x128x1024 .f32) (harg2 : arg2.IsWhole) (arg3 : Memref sig .tc .vmem S1x32x8x1024 .f32) (harg3 : arg3.IsWhole) (arg4 : Memref sig .tc .vmem S1x128x1024 .bf16) (harg4 : arg4.IsWhole)
    (x0 : Vec F S1x32x128x1024 .f32) (x1 : Vec F S1x32x8x1024 .f32) :
    { L2 : List (View.Piece (Elt F) S1x128x1024 .bf16) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__grad_kernel i arg2 harg2 arg3 harg3 arg4 harg4) K } := by
  refine ⟨?_, fun E K => ?run⟩
  case run =>
    have hc0 := cond0 i
    have hc1 := cond1 i
    unfold Cond0 at hc0; unfold Cond1 at hc1
    simp only [cc0__grad_kernel_eq_skeleton]; unfold cc0__grad_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton]
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H2

/-- The stores of region 0's body cover the block. -/
theorem cover0_2 (c : Dev nD) (i : grid0.Coords) (arg2 : Memref sig .tc .vmem S1x32x128x1024 .f32) (harg2 : arg2.IsWhole) (arg3 : Memref sig .tc .vmem S1x32x8x1024 .f32) (harg3 : arg3.IsWhole) (arg4 : Memref sig .tc .vmem S1x128x1024 .bf16) (harg4 : arg4.IsWhole)
    (x0 : Vec F S1x32x128x1024 .f32) (x1 : Vec F S1x32x8x1024 .f32) (y : S1x128x1024.Idx) :
    ∃ pc ∈ (kernelRun0 c i arg2 harg2 arg3 harg3 arg4 harg4 x0 x1).1, y ∈ pc.1.set :=
  View.cover_of_tiledL (kernelRun0 c i arg2 harg2 arg3 harg3 arg4 harg4 x0 x1).1 S1x128x1024.size (by sl_kernel_rfl) y

/-- What the body of region 0 leaves in the result's staging buffer. -/
def out0_2 (c : Dev nD) (i : grid0.Coords) (arg2 : Memref sig .tc .vmem S1x32x128x1024 .f32) (harg2 : arg2.IsWhole) (arg3 : Memref sig .tc .vmem S1x32x8x1024 .f32) (harg3 : arg3.IsWhole) (arg4 : Memref sig .tc .vmem S1x128x1024 .bf16) (harg4 : arg4.IsWhole)
    (x0 : Vec F S1x32x128x1024 .f32) (x1 : Vec F S1x32x8x1024 .f32) : Vec F S1x128x1024 .bf16 :=
  VO0_2.read (Elt F) (VO0_2.writes (Elt F) VO0_2.junk (kernelRun0 c i arg2 harg2 arg3 harg3 arg4 harg4 x0 x1).1)

/-- The same at grid point `t`, of the blocks staged there. -/
def outsAt0 (c : Dev nD) (t : Fin cfg0.N) : Vec F S1x128x1024 .bf16 :=
  out0_2 c (grid0.coords t) (ms0_0 t) (hs0_0 t) (ms0_1 t) (hs0_1 t) (ms0_2 t) (hs0_2 t) (iblk0 V c 0 t) (iblk0 V c 1 t)

/-- The proof data of region 0: its arrays as found, the inputs left as staged, the result at `outsAt0`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t)
  Φ _ := Pipeline.ΦA spec0 c
  q w := Pipeline.shareOf spec0 w
  owed _ := 0

/-- Its arrays are the ones found at entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t) := by dsimp only [dat0]

/-- What each input's buffer holds before the body: its block. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is entered with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

/-- The body of region 0 at any point goes from the one to the other. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl]
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  unfold outsAt0
  unfold out0_2
  iintro ⟨HΦ, Ho, ⟨%d0, H0⟩, ⟨%d1, H1⟩, ⟨%d2, H2⟩⟩
  iapply ((kernelRun0 c (grid0.coords t) _ _ _ _ _ _ (iblk0 V c 0 t) (iblk0 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover0_2 c _ _ _ _ _ _ _ _ _)

/-- The table of bodies at region 0's row is its kernel on the staging memrefs of the point. -/
theorem defs₀_row0 (t : Fin cfg0.N) :
    defs₀ (F := F) .tc cfg0.body (cfg0.bodyArgs t (cfg0.slots t)) = bodyAt0 t := by
  unfold defs₀; rw [Defs.onTc_tc]

/-- The obligation of region 0's body, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! ## Region 1: the box filter, two products with the band matrix -/

/-- The block of region 1's window `w` at point `t`: read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Whatever the proof data, the image's staging buffer holds its block when the body starts, -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- and so does the band matrix's, fetched once and kept. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole band matrix, and a whole image, as rectangles. -/
abbrev r1_0 : Rect S1024x1024 := Rect.unit (s := S1024x1024) ![0, 0] S1024x1024.size inb_S1024x1024_S1024x1024_0_0
abbrev r1_1 : Rect S1x1024x1024 := Rect.unit (s := S1x1024x1024) ![0, 0, 0] S1x1024x1024.size inb_S1x1024x1024_S1x1024x1024_0_0_0

/-- What the body of region 1 leaves in the result's staging buffer: its one store. -/
def out1_2 (x0 : Vec F S1x1024x1024 .bf16) (x1 : Vec F S1024x1024 .bf16) : Vec F S1x1024x1024 .f32 :=
  View.canon [⟨r1_1, k1_pay1 (View.ld x1 r1_0) (View.ld x0 r1_1)⟩]

/-- The store covers the block. -/
theorem cover1_2 (p0 : Vec F S1x1024x1024 .f32) (y : S1x1024x1024.Idx) :
    ∃ pc ∈ ([⟨r1_1, p0⟩] : List (View.Piece (Elt F) S1x1024x1024 .f32)), y ∈ pc.1.set :=
  View.cover_of_tiled [⟨r1_1, p0⟩] S1x1024x1024.size (by rfl) y

set_option maxHeartbeats 1000000 in
/-- The body of region 1 on whole staging buffers runs, gives the inputs' back and leaves `out1_2` of them. -/
theorem sound_kernel1 (c : Dev nD) (E : Set ℕ) (i : grid1.Coords) (arg1 : Memref sig .tc .vmem S1x1024x1024 .bf16) (harg1 : arg1.IsWhole) (arg2 : Memref sig .tc .vmem S1024x1024 .bf16) (harg2 : arg2.IsWhole) (arg3 : Memref sig .tc .vmem S1x1024x1024 .f32) (harg3 : arg3.IsWhole)
    (x0 : Vec F S1x1024x1024 .bf16) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__box_kernel i arg1 harg1 arg2 harg2 arg3 harg3) K := by
  simp only [cc1__box_kernel_eq_skeleton]; unfold cc1__box_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of region 1: its arrays as found, the inputs left as staged, the result at `out1_2` of the blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- Its arrays are the ones found at entry. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- What each input's buffer holds before the body: its block. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is entered with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body of region 1 at any point goes from the one to the other. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The table of bodies at region 1's row is its kernel on the staging memrefs of the point. -/
theorem defs₀_row1 (t : Fin cfg1.N) :
    defs₀ (F := F) .tc cfg1.body (cfg1.bodyArgs t (cfg1.slots t)) = bodyAt1 t := by
  unfold defs₀; rw [Defs.onTc_tc]

/-- The obligation of region 1's body, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Run

end
-- ==== Proof.IdealRun.lean ====
/-
  The run of the whole program: the buffers at each boundary between its segments, the two regions as segments,
  and the launch.
-/
module

public import proofs.«01_k».proof.Proof.IdealBody
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The program's one argument array. -/
abbrev argRefs : List (Ref sig .tc) := [main_arg0]

/-- No host operation between the regions allocates. -/
theorem hostOps1_fresh : (hostOps1 : List (HloOp τ sig (Elt F))).Forall fun op => op.fresh = ∅ := by
  simp only [List.Forall]; repeat' constructor
/-- The buffers the host operations between the regions write. -/
abbrev hostOps1_W : List (Ref sig .tc) := [main_v1, main_v2, main_v3, main_v4, main_v5, main_v6, main_v7, main_c, main_v8, main_v9, main_v10]
/-- Each host operation writes a buffer of that list, -/
theorem hostOps1_writes : (hostOps1 : List (HloOp τ sig (Elt F))).Forall fun op => op.writes ⊆ (hostOps1_W.map (Proc.devRef (τ := τ) .tc)).toFinset :=
  StableHlo.forall_writes_sub_of_map rfl
/-- and the argument is not among them. -/
theorem hostOps1_args : ∀ a ∈ argRefs, a ∉ hostOps1_W := ListAll.forall_mem_of_all_decide (by decide +kernel)

/-- The buffers at the launch. -/
abbrev W0 : Dev nD → Valuation τ sig (Elt F) := fun c b => (s₀ m ρ).mem ((c : Dev nD), b)
/-- There the argument is as launched. -/
theorem W0_args (c : Dev nD) : ∀ a ∈ argRefs, W0 m ρ c (Proc.devRef .tc a) = m ((c : Thread nD τ).loc a) := fun _ _ => rfl
/-- The same, at the references of the core. -/
abbrev V0 : (c : Dev nD) → (b : Ref sig .tc) → Buf (Elt F) ((c : Thread nD τ).loc b) := fun c b => W0 m ρ c b
/-- The buffers after region 0: its result array written back block by block, all else as before. -/
def W1 (c : Dev nD) : Valuation τ sig (Elt F) :=
  Pipeline.withArrays spec0 c (W0 m ρ c) fun w => (dat0 (V0 m ρ) c).arrAt w cfg0.N
/-- What region 0's arrays hold after it. -/
theorem W1_arr (c : Dev nD) (w : Fin cfg0.W) :
    W1 m ρ c (Proc.devRef .tc (Pipeline.arrRef spec0 w)) = (dat0 (V0 m ρ) c).arrAt w cfg0.N := by
  unfold W1; exact (dat0 (V0 m ρ) c).withArrays_arrAt launch₀0.sharedIn _ (A_eq0 (V0 m ρ) c) w
/-- A buffer that is no array of region 0 is kept. -/
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- So is an array only read. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- The argument is only read by region 0. -/
theorem argsIn0 : ∀ a ∈ argRefs, ∀ w : Fin cfg0.W, Pipeline.arrRef spec0 w = a → (cfg0.win w).isOut = false :=
  ListAll.forall_mem_of_all_decide (by decide +kernel)
/-- After region 0 the argument is as launched. -/
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same, at the references of the core. -/
abbrev V1 : (c : Dev nD) → (b : Ref sig .tc) → Buf (Elt F) ((c : Thread nD τ).loc b) := fun c b => W1 m ρ c b
/-- Region 0's arrays at its exit, -/
theorem hF0 (c : Dev nD) (w : Fin cfg0.W) : (dat0 (V0 m ρ) c).arrAt w cfg0.N = V1 m ρ c (Pipeline.arrRef spec0 w) :=
  (W1_arr m ρ c w).symm
/-- and every other buffer. -/
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- The buffers after the host operations that build the band matrix. -/
abbrev W2 : Dev nD → Valuation τ sig (Elt F) := fun c => StableHlo.after hostOps1 (W1 m ρ c)
/-- A buffer they do not write is kept. -/
theorem W2_of (c : Dev nD) (r : Ref sig .tc) (h : r ∉ hostOps1_W) : W2 m ρ c (Proc.devRef .tc r) = W1 m ρ c (Proc.devRef .tc r) :=
  StableHlo.after_of_writes_sub hostOps1 _ hostOps1_writes h
/-- After them the argument is as launched. -/
theorem W2_args (c : Dev nD) : ∀ a ∈ argRefs, W2 m ρ c (Proc.devRef .tc a) = m ((c : Thread nD τ).loc a) :=
  fun a ha => (W2_of m ρ c a (hostOps1_args a ha)).trans (W1_args m ρ c a ha)
/-- The same, at the references of the core. -/
abbrev V2 : (c : Dev nD) → (b : Ref sig .tc) → Buf (Elt F) ((c : Thread nD τ).loc b) := fun c b => W2 m ρ c b
/-- The buffers after region 1: the program's result written back image by image. -/
def W3 (c : Dev nD) : Valuation τ sig (Elt F) :=
  Pipeline.withArrays spec1 c (W2 m ρ c) fun w => (dat1 (V2 m ρ) c).arrAt w cfg1.N
/-- What region 1's arrays hold after it. -/
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
/-- A buffer that is no array of region 1 is kept. -/
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- So is an array only read. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- The argument is only read by region 1, if at all. -/
theorem argsIn1 : ∀ a ∈ argRefs, ∀ w : Fin cfg1.W, Pipeline.arrRef spec1 w = a → (cfg1.win w).isOut = false :=
  ListAll.forall_mem_of_all_decide (by decide +kernel)
/-- After region 1 the argument is as launched. -/
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same, at the references of the core. -/
abbrev V3 : (c : Dev nD) → (b : Ref sig .tc) → Buf (Elt F) ((c : Thread nD τ).loc b) := fun c b => W3 m ρ c b
/-- Region 1's arrays at its exit, -/
theorem hF1 (c : Dev nD) (w : Fin cfg1.W) : (dat1 (V2 m ρ) c).arrAt w cfg1.N = V3 m ρ c (Pipeline.arrRef spec1 w) :=
  (W3_arr m ρ c w).symm
/-- and every other buffer. -/
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The argument ends as launched. -/
theorem W3_main_arg0 (c : Dev nD) : W3 m ρ c (Proc.devRef .tc main_arg0) = m ((c : Thread nD τ).loc main_arg0) :=
  W3_args m ρ c main_arg0 (by decide)

/-- No pipeline prefetches a table. -/
abbrev adm : (p : Fin 2) → (pcfgs (F := F) p).Adm := fun p => (cfgs p).toPCfg_adm
/-- The proof data of both pipelines, each at its region's entry. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
/-- No variants are needed: nothing loops. -/
abbrev 𝒱₀ : Variants := Variants.none
/-- No core owes another anything. -/
abbrev L : GSem nD τ sig → Finset Unit := fun _ => ∅
abbrev lv : GSem nD τ sig → Unit → ℕ := fun _ _ => 0
/-- What rides along beside the buffers: the generator register, and that nothing is owed. -/
abbrev R (c : Dev nD) : sProp 𝕄 := iprop((∃ r, prngReg c r) ∗ ∃ W, owes (c : Thread nD τ) (0 : CellTallies nD τ sig Unit) W)
/-- The host operations between the regions, as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped buffer is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer as after region 1. -/
abbrev Tₙ (c : Dev nD) : sProp 𝕄 := iprop(StableHlo.held (c : Thread nD τ) (Pipeline.ucRefs τ sig) (W3 m ρ c) ∗ ∃ r, prngReg c r)

set_option backward.isDefEq.respectTransparency.types false in
/-- Region 0 as a segment: from the buffers at `W0` to the buffers at `W1`; its two input windows share the
    argument array and are dealt a share of it each. -/
def reg0 : Pipeline.RegionSeg (pcfgs (F := F)) adm (pdats m ρ) () defs₀ 𝒱₀ L lv 0 where
  win := launch₀0.win
  block_pos := launch₀0.block_pos
  stage_whole := launch₀0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs_shared (p := 0) (pcfgs (F := F)) adm (pdats m ρ) launch₀0.win launch₀0.sharedIn launch₀0.arr_whole c
      (fun _ _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m ρ) (fun _ _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: from the buffers at `W2` to the buffers at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's three segments. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
/-- The program is their run. -/
theorem main_run (c : Dev nD) : main (F := F) c = Pipeline.Seg.run (segs m ρ) := (main_chain c).trans (by chain_rfl)

/-- The core has no unscoped semaphore. -/
theorem no_unscoped : ∀ sm : SemLoc sig, sm.isScoped .tc = true := by decide

set_option backward.isDefEq.respectTransparency.types false in
/-- The run of the whole program: it ends, nothing faulting, with the result array and the argument as after
    region 1, and every semaphore counter at zero. -/
theorem run : θ_run defs (onTc (τ := τ) (main (F := F))) ⟨m, fun _ => 0, ρ⟩ (fun r => (∀ c : Dev nD,
      r.2.mem ((c.tc : Thread nD τ).loc main_v11) = W3 m ρ c (Proc.devRef .tc main_v11)
        ∧ r.2.mem ((c.tc : Thread nD τ).loc main_arg0) = m ((c.tc : Thread nD τ).loc main_arg0))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨fun c =>
      ⟨h c _ (mem_uc main_v11 (by decide)), (h c _ (mem_uc main_arg0 (by decide))).trans (W3_main_arg0 m ρ c)⟩,
      funext fun g => hz g (.inr (no_unscoped g.2))⟩)

end Cert.KernelIdeal.Run

end
-- ==== Proof.Channels.lean ====
/-
  The gradient kernel's block, as sums over the 32 channels: what the unrolled body stores is the running sum of one
  channel's term, and what it adds to row 0 is the running sum of one channel's correction.
-/
module

public import proofs.«01_k».proof.Proof.IdealBody

@[expose] public section

set_option maxRecDepth 16384

noncomputable section

namespace Cert.KernelIdeal.Block

open Cert.KernelIdeal Cert.KernelIdeal.Gen Cert.KernelIdeal.Run
open Idealize.ShloMosaic Idealize.ShloMosaic.TcCoe Idealize.ShloMosaic.Tactic

variable {F : FTy → Type} [FloatOps F] [Named F]

/-- One channel of the staged block stands inside it. -/
theorem inb_chan {n : ℕ} (h : n < 32) :
    ∀ a : Fin 4, (![0, n, 0, 0] : Fin 4 → ℕ) a + S1x1x128x1024.size a ≤ S1x32x128x1024.size a := by
  intro a
  match a with
  | ⟨0, _⟩ => show 0 + 1 ≤ 1; omega
  | ⟨1, _⟩ => show n + 1 ≤ 32; omega
  | ⟨2, _⟩ => show 0 + 128 ≤ 128; omega
  | ⟨3, _⟩ => show 0 + 1024 ≤ 1024; omega

/-- One row of one channel of it does. -/
theorem inb_row {n r : ℕ} (h : n < 32) (hr : r < 128) :
    ∀ a : Fin 4, (![0, n, r, 0] : Fin 4 → ℕ) a + S1x1x1x1024.size a ≤ S1x32x128x1024.size a := by
  intro a
  match a with
  | ⟨0, _⟩ => show 0 + 1 ≤ 1; omega
  | ⟨1, _⟩ => show n + 1 ≤ 32; omega
  | ⟨2, _⟩ => show r + 1 ≤ 128; omega
  | ⟨3, _⟩ => show 0 + 1024 ≤ 1024; omega

/-- The last row of one channel of the block above it does. -/
theorem inb_halo {n : ℕ} (h : n < 32) :
    ∀ a : Fin 4, (![0, n, 7, 0] : Fin 4 → ℕ) a + S1x1x1x1024.size a ≤ S1x32x8x1024.size a := by
  intro a
  match a with
  | ⟨0, _⟩ => show 0 + 1 ≤ 1; omega
  | ⟨1, _⟩ => show n + 1 ≤ 32; omega
  | ⟨2, _⟩ => show 7 + 1 ≤ 8; omega
  | ⟨3, _⟩ => show 0 + 1024 ≤ 1024; omega

/-- Channel `n` of the block. -/
def chan (x : Vec F S1x32x128x1024 .f32) (n : ℕ) (h : n < 32) : Vec F S1x1x128x1024 .f32 :=
  View.ld (Val := Elt F) (e' := .f32) x (Rect.unit ![0, n, 0, 0] S1x1x128x1024.size (inb_chan h))

/-- Row `r` of channel `n` of the block. -/
def row (x : Vec F S1x32x128x1024 .f32) (n r : ℕ) (h : n < 32) (hr : r < 128) : Vec F S1x1x1x1024 .f32 :=
  View.ld (Val := Elt F) (e' := .f32) x (Rect.unit ![0, n, r, 0] S1x1x1x1024.size (inb_row h hr))

/-- The last row of channel `n` of the block above. -/
def halo (x : Vec F S1x32x8x1024 .f32) (n : ℕ) (h : n < 32) : Vec F S1x1x1x1024 .f32 :=
  View.ld (Val := Elt F) (e' := .f32) x (Rect.unit ![0, n, 7, 0] S1x1x1x1024.size (inb_halo h))

/-- The sum of the channels' terms, up to channel `n`, from the left. -/
def acc (x : Vec F S1x32x128x1024 .f32) : (n : ℕ) → n < 32 → FVec F S128x1024 .bf16
  | 0, h => k0_pay4 (chan x 0 h)
  | n + 1, h => addf (acc x n (Nat.lt_of_succ_lt h)) (k0_pay4 (chan x (n + 1) h))

/-- The sum of the channels' corrections of row 0, up to channel `n`, from the left. -/
def corr (i : grid0.Coords) (x : Vec F S1x32x128x1024 .f32) (y : Vec F S1x32x8x1024 .f32) :
    (n : ℕ) → n < 32 → FVec F S1x1024 .f32
  | 0, h => k0_pay5 (k0_pay2 i) k0_pay3 (row x 0 0 h (by omega)) (row x 0 127 h (by omega)) (halo y 0 h)
  | n + 1, h => addf (corr i x y n (Nat.lt_of_succ_lt h))
      (k0_pay5 (k0_pay2 i) k0_pay3 (row x (n + 1) 0 h (by omega)) (row x (n + 1) 127 h (by omega)) (halo y (n + 1) h))

section

variable (c : Dev nD) (i : grid0.Coords) (arg2 : Memref sig .tc .vmem S1x32x128x1024 .f32) (harg2 : arg2.IsWhole)
  (arg3 : Memref sig .tc .vmem S1x32x8x1024 .f32) (harg3 : arg3.IsWhole)
  (arg4 : Memref sig .tc .vmem S1x128x1024 .bf16) (harg4 : arg4.IsWhole)
  (x0 : Vec F S1x32x128x1024 .f32) (x1 : Vec F S1x32x8x1024 .f32)

/-- The body's first store is the whole block, at the sum of all channels' terms. -/
theorem first_store : kernelRun0.sl.H2_1 c arg2 harg2 x0
    = [⟨Rect.unit ![0, 0, 0] S1x128x1024.size inb_S1x128x1024_S1x128x1024_0_0_0,
        shapeCast S1x128x1024 (acc (arg2.view.read (Elt F) (harg2.unread x0)) 31 (by omega)) shapeCasts_S128x1024_S1x128x1024⟩] := by
  sl_kernel_rfl

/-- The correction the body adds to row 0 is the sum of all channels' corrections. -/
theorem row_correction : kernelRun0.sl.r_132 c i arg2 harg2 arg3 harg3 x0 x1
    = corr i (arg2.view.read (Elt F) (harg2.unread x0)) (arg3.view.read (Elt F) (harg3.unread x1)) 31 (by omega) := by
  sl_kernel_rfl

/-- What the body leaves in the result's buffer. -/
theorem stores : (kernelRun0 c i arg2 harg2 arg3 harg3 arg4 harg4 x0 x1).1
    = ⟨Rect.unit ![0, 0, 0] ![1, 2, 1024] inb_S1x128x1024_S1x2x1024_0_0_0,
        updateSlice (kernelRun0.sl.old c arg2 harg2 arg4 x0)
          (k0_pay1 (kernelRun0.sl.r_132 c i arg2 harg2 arg3 harg3 x0 x1) (kernelRun0.sl.v1494 c arg2 harg2 arg4 x0))
          ![0, 0, 0] slices_S1x2x1024_S1x1x1024_0_0_0⟩ :: kernelRun0.sl.H2_1 c arg2 harg2 x0 := by
  sl_kernel_rfl

end

end Cert.KernelIdeal.Block

end
-- ==== Proof.Root.lean ====
/-
  The scalar the gradient kernel computes, over the extended reals: the guarded root `s / √(s + ε)` of a sum of two
  squares. It is a finite real whatever the two differences are, the infinities included.
-/
module

public import Idealize.ShloMosaic.PureOps.Ideal

@[expose] public section

noncomputable section

namespace Cert.Grad

open Idealize.ShloMosaic

/-- The guard: the value of the float literal `1e-30`. -/
def eps : EReal := ((332307 / 332306998946228968225951765070086144 : ℝ) : EReal)

/-- The sum of the squares of two differences. -/
def sq (a b : EReal) : EReal := a * a + b * b

/-- The guarded root, as the kernel spells it. -/
def root (s : EReal) : EReal := s * Ideal.rsqrt (s + eps)

/-- The literal's word denotes the guard. -/
theorem ofBits_eps : Ideal.ofBits .f32 0x0DA24260#32 = eps := by
  unfold eps
  simp only [Ideal.ofBits, Ideal.ieee]
  have h1 : (BitVec.extractLsb' 23 8 0x0DA24260#32).toNat = 27 := by decide
  have h2 : (BitVec.extractLsb' 0 23 0x0DA24260#32).toNat = 2245216 := by decide
  have h3 : (BitVec.extractLsb' (8 + 23) 1 0x0DA24260#32 == 1#1) = false := by decide
  rw [h1, h2, h3]
  norm_num

/-- A square is `⊤` or a nonnegative real. -/
theorem mul_self_cases (a : EReal) : a * a = ⊤ ∨ ∃ r : ℝ, 0 ≤ r ∧ a * a = (r : EReal) := by
  induction a with
  | bot => exact .inl (by simp)
  | top => exact .inl (by simp)
  | coe r => exact .inr ⟨r * r, mul_self_nonneg r, by rw [EReal.coe_mul]⟩

/-- So is the sum of two. -/
theorem sq_cases (a b : EReal) : sq a b = ⊤ ∨ ∃ r : ℝ, 0 ≤ r ∧ sq a b = (r : EReal) := by
  unfold sq
  rcases mul_self_cases a with ha | ⟨r, hr, ha⟩ <;> rcases mul_self_cases b with hb | ⟨t, ht, hb⟩ <;> rw [ha, hb]
  · exact .inl (by simp)
  · exact .inl (by simp)
  · exact .inl (by simp)
  · exact .inr ⟨r + t, add_nonneg hr ht, by rw [EReal.coe_add]⟩

/-- The guarded root of a nonnegative real. -/
theorem root_coe {r : ℝ} (hr : 0 ≤ r) :
    root (r : EReal) = ((r * (Real.sqrt (r + 332307 / 332306998946228968225951765070086144))⁻¹ : ℝ) : EReal) := by
  have h : (0 : ℝ) < r + 332307 / 332306998946228968225951765070086144 := by positivity
  unfold root eps
  rw [← EReal.coe_add, Ideal.rsqrt_coe, if_neg (not_lt.mpr h.le), if_neg h.ne', ← EReal.coe_mul]

/-- The guarded root of `⊤` is zero: the kernel's product of `⊤` with the inverse root of `⊤`. -/
theorem root_top : root ⊤ = 0 := by
  unfold root eps
  rw [EReal.top_add_coe, Ideal.rsqrt_top, mul_zero]

/-- The guarded root of a sum of two squares, as a real. -/
def rootR (a b : EReal) : ℝ := (root (sq a b)).toReal

/-- It is finite. -/
theorem root_sq (a b : EReal) : root (sq a b) = (rootR a b : EReal) := by
  unfold rootR
  rcases sq_cases a b with h | ⟨r, hr, h⟩ <;> rw [h]
  · rw [root_top]; simp
  · rw [root_coe hr, EReal.toReal_coe]

/-- The reference's spelling, a quotient by a root, has the same value. -/
theorem div_sqrt_sq (a b : EReal) : Ideal.div (sq a b) (Ideal.sqrt (sq a b + eps)) = (rootR a b : EReal) := by
  rw [← root_sq]
  rcases sq_cases a b with h | ⟨r, hr, h⟩ <;> rw [h]
  · rw [root_top]; unfold eps; rw [EReal.top_add_coe, Ideal.sqrt_top]; unfold Ideal.div; simp
  · have h : (0 : ℝ) < r + 332307 / 332306998946228968225951765070086144 := by positivity
    rw [root_coe hr]; unfold eps
    rw [← EReal.coe_add, Ideal.sqrt_coe, if_neg (not_lt.mpr h.le), Ideal.div_coe (Real.sqrt_pos.mpr h).ne', one_div,
      ← EReal.coe_mul]

end Cert.Grad

end
-- ==== Proof.Window.lean ====
/-
  Sums over a window of 51 entries of a line of 1024, zero outside: as a sum over a band, as a sum over the padded
  line, and as a difference of two prefix sums.
-/
module

public import Idealize.ShloMosaic.PureOps.Ideal

@[expose] public section

noncomputable section

namespace Cert.Grad

open Finset

/-- The sum of the entries of `f` at most 25 away from `j`, along a line of 1024. -/
def win (f : ℕ → ℝ) (j : ℕ) : ℝ := ∑ k ∈ range 1024, if k ≤ j + 25 ∧ j ≤ k + 25 then f k else 0

/-- The line padded with 25 zeros on either side. -/
def padded (f : ℕ → ℝ) (n : ℕ) : ℝ := if 25 ≤ n ∧ n < 1049 then f (n - 25) else 0

/-- The window is a difference of two prefix sums of the padded line. -/
theorem prefix_sub_eq_win (f : ℕ → ℝ) {j : ℕ} (hj : j < 1024) :
    ∑ n ∈ range (j + 51), padded f n - ∑ n ∈ range j, padded f n = win f j := by
  rw [Finset.sum_range_add, add_sub_cancel_left]
  unfold win padded
  rw [← Finset.sum_filter, ← Finset.sum_filter]
  refine Finset.sum_nbij' (fun n => j + n - 25) (fun k => k + 25 - j) ?_ ?_ ?_ ?_ fun _ _ => rfl <;>
    simp only [Finset.mem_filter, Finset.mem_range] <;> intros <;> omega

/-- A running sum, written as the sum over a window of the line's whole length ending at the entry. -/
theorem sum_running (g : ℕ → ℝ) {N j : ℕ} (hj : j < N) :
    (∑ n ∈ range N, if N - 1 ≤ j + n ∧ j + n - (N - 1) < N then g (j + n - (N - 1)) else 0) = ∑ k ∈ range (j + 1), g k := by
  rw [← Finset.sum_filter]
  refine Finset.sum_nbij' (fun n => j + n - (N - 1)) (fun k => k + (N - 1) - j) ?_ ?_ ?_ ?_ fun _ _ => rfl <;>
    simp only [Finset.mem_filter, Finset.mem_range] <;> intros <;> omega

/-- The window depends on the entries of the line only. -/
theorem win_congr {f g : ℕ → ℝ} (h : ∀ k < 1024, f k = g k) (j : ℕ) : win f j = win g j :=
  Finset.sum_congr rfl fun k hk => by rw [h k (Finset.mem_range.mp hk)]

/-- The two box sums commute. -/
theorem win_comm (f : ℕ → ℕ → ℝ) (i j : ℕ) :
    win (fun a => win (fun b => f a b) j) i = win (fun b => win (fun a => f a b) i) j := by
  unfold win
  have e : ∀ (P Q : Prop) [Decidable P] [Decidable Q] (r : ℝ),
      (if P then (if Q then r else 0) else 0) = if Q then (if P then r else 0) else 0 := by
    intros; split_ifs <;> rfl
  have d : ∀ (P : ℕ → Prop) [DecidablePred P] (g : ℕ → ℕ → ℝ) (a : ℕ),
      (if P a then ∑ b ∈ range 1024, g a b else 0) = ∑ b ∈ range 1024, if P a then g a b else 0 := by
    intro P _ g a; split_ifs
    · rfl
    · rw [Finset.sum_const_zero]
  rw [Finset.sum_congr rfl fun a _ => d (fun a => a ≤ i + 25 ∧ i ≤ a + 25) (fun a b => if b ≤ j + 25 ∧ j ≤ b + 25 then f a b else 0) a,
    Finset.sum_congr rfl fun b _ => d (fun b => b ≤ j + 25 ∧ j ≤ b + 25) (fun b a => if a ≤ i + 25 ∧ i ≤ a + 25 then f a b else 0) b,
    Finset.sum_comm]
  exact Finset.sum_congr rfl fun b _ => Finset.sum_congr rfl fun a _ => e _ _ _

/-- A finite sum of reals, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.Grad

end
-- ==== Proof.Spec.lean ====
/-
  What is computed, entry by entry: the guarded root of the squared differences to the left and upper neighbours
  (zero beyond the border), summed over the channels, and box-summed along both image axes.
-/
module

public import proofs.«01_k».proof.Proof.Root
public import proofs.«01_k».proof.Proof.Window
public import Idealize.ShloMosaic.Lib.Pointwise

@[expose] public section

noncomputable section

namespace Cert.Grad

open Idealize.ShloMosaic

/-- The four images of 32 channels. -/
abbrev Images := (⟨4, ![4, 32, 1024, 1024]⟩ : Shape).Idx → EReal

/-- One entry, at coordinates that are natural numbers; zero outside. -/
def cell (X : Images) (b c y x : ℕ) : EReal :=
  if h : b < 4 ∧ c < 32 ∧ y < 1024 ∧ x < 1024 then X (ix4 ⟨b, h.1⟩ ⟨c, h.2.1⟩ ⟨y, h.2.2.1⟩ ⟨x, h.2.2.2⟩) else 0

/-- The left neighbour, zero at the border. -/
def left (X : Images) (b c y x : ℕ) : EReal := if x = 0 then 0 else cell X b c y (x - 1)

/-- The upper neighbour, zero at the border. -/
def upper (X : Images) (b c y x : ℕ) : EReal := if y = 0 then 0 else cell X b c (y - 1) x

/-- One channel's gradient magnitude. -/
def grad (X : Images) (b c y x : ℕ) : ℝ :=
  rootR (left X b c y x - cell X b c y x) (upper X b c y x - cell X b c y x)

/-- Its sum over the channels. -/
def gsum (X : Images) (b y x : ℕ) : ℝ := ∑ c ∈ Finset.range 32, grad X b c y x

/-- The box sum along both image axes. -/
def out (X : Images) (b y x : ℕ) : ℝ := win (fun a => win (fun k => gsum X b a k) x) y

/-- An entry inside is read where it stands. -/
theorem cell_of {X : Images} {b c y x : ℕ} (hb : b < 4) (hc : c < 32) (hy : y < 1024) (hx : x < 1024) :
    cell X b c y x = X (ix4 ⟨b, hb⟩ ⟨c, hc⟩ ⟨y, hy⟩ ⟨x, hx⟩) := dif_pos ⟨hb, hc, hy, hx⟩

end Cert.Grad

end
-- ==== Proof.BlockValue.lean ====
/-
  The gradient kernel's block over the extended reals: entry `(r, l)` of what it leaves is the channel sum of the
  gradient magnitudes at row `128 t + r` of the image, column `l`.
-/
module

public import proofs.«01_k».proof.Proof.Channels
public import proofs.«01_k».proof.Proof.Spec
public import Idealize.ShloMosaic.Lib.KernelVsHost
public import Idealize.ShloMosaic.Lib.Pointwise

@[expose] public section

set_option maxRecDepth 16384

noncomputable section

namespace Cert.KernelIdeal.Block

open Cert.KernelIdeal Cert.KernelIdeal.Gen Cert.KernelIdeal.Run Cert.Grad
open Idealize.ShloMosaic Idealize.ShloMosaic.TcCoe Idealize.ShloMosaic.Tactic

/-- The kernel's guard, in either format, is the reference's. -/
theorem named_eps16 : (Named.named κ "eps" 0x0DA2#16 : Ideal .bf16) = eps := rfl

/-- The same at the wider format. -/
theorem named_eps32 : (Named.named κ "eps" 0x0DA24260#32 : Ideal .f32) = eps := rfl

/-- The lane mask zeroes lane 0 and keeps the others. -/
theorem mask_lane (l : Fin 1024) (z : EReal) :
    Scalar.select (IntOp.cmpi CmpIPredicate.eq (BitVec.ofNat 32 l.val) 0#32) 0 z = if l.val = 0 then 0 else z := by
  have hl := l.isLt
  have e : (IntOp.cmpi CmpIPredicate.eq (BitVec.ofNat 32 l.val) 0#32) = if l.val = 0 then 1#1 else 0#1 := by
    by_cases h : l.val = 0
    · rw [if_pos h, h]; decide
    · rw [if_neg h]
      have : BitVec.ofNat 32 l.val ≠ 0#32 := fun hh => h (by
        have := congrArg BitVec.toNat hh
        simp at this
        omega)
      show BitVec.ofBool (BitVec.ofNat 32 l.val == 0#32) = 0#1
      rw [beq_eq_false_iff_ne.mpr this]; rfl
  rw [e]
  by_cases h : l.val = 0
  · rw [if_pos h, if_pos h]; rfl
  · rw [if_neg h, if_neg h]; rfl

/-- The lane before, around the end. -/
def before (l : Fin 1024) : Fin 1024 := ⟨(l.val + 1024 - 1) % 1024, Nat.mod_lt _ (by omega)⟩

/-- The row before, around the end of the block. -/
def above (r : Fin 128) : Fin 128 := ⟨(r.val + 128 - 1) % 128, Nat.mod_lt _ (by omega)⟩

/-- One channel's term at an entry. -/
theorem term_apply (v : Vec Ideal S1x1x128x1024 .f32) (r : Fin 128) (l : Fin 1024) :
    k0_pay4 v (ix2 r l) = (rootR ((if l.val = 0 then 0 else v (ix4 0 0 r (before l))) - v (ix4 0 0 r l))
      (v (ix4 0 0 (above r) l) - v (ix4 0 0 r l)) : EReal) := by
  rw [← root_sq]
  pointwise [k0_pay4, k0_pay3]
  rw [mask_lane, named_eps16]
  rfl

/-- One channel's correction at an entry: the root with the row truly above, less the root with the wrapped row. -/
theorem corr_apply (s : EReal) (v w h : Vec Ideal S1x1x1x1024 .f32) (l : Fin 1024) :
    k0_pay5 s k0_pay3 v w h (ix2 0 l)
      = (rootR ((if l.val = 0 then 0 else v (ix4 0 0 0 (before l))) - v (ix4 0 0 0 l))
          (h (ix4 0 0 0 l) * s - v (ix4 0 0 0 l))
        - rootR ((if l.val = 0 then 0 else v (ix4 0 0 0 (before l))) - v (ix4 0 0 0 l))
          (w (ix4 0 0 0 l) - v (ix4 0 0 0 l)) : EReal) := by
  rw [← root_sq, ← root_sq]
  pointwise [k0_pay5, k0_pay3]
  rw [mask_lane, named_eps32]
  rfl

/-- Entry `(r, l)` of channel `n` of the block. -/
theorem chan_apply (x : Vec Ideal S1x32x128x1024 .f32) (n : ℕ) (h : n < 32) (r : Fin 128) (l : Fin 1024) :
    chan x n h (ix4 0 0 r l) = x (ix4 0 ⟨n, h⟩ r l) := by
  refine congrArg x (funext fun a => ?_)
  match a with
  | ⟨0, _⟩ => rfl
  | ⟨1, _⟩ => exact Fin.ext (by show n + 1 * 0 = n; omega)
  | ⟨2, _⟩ => exact Fin.ext (by show 0 + 1 * r.val = r.val; omega)
  | ⟨3, _⟩ => exact Fin.ext (by show 0 + 1 * l.val = l.val; omega)

/-- Entry `l` of row `r` of channel `n` of the block. -/
theorem row_apply (x : Vec Ideal S1x32x128x1024 .f32) (n r : ℕ) (h : n < 32) (hr : r < 128) (l : Fin 1024) :
    row x n r h hr (ix4 0 0 0 l) = x (ix4 0 ⟨n, h⟩ ⟨r, hr⟩ l) := by
  refine congrArg x (funext fun a => ?_)
  match a with
  | ⟨0, _⟩ => rfl
  | ⟨1, _⟩ => exact Fin.ext (by show n + 1 * 0 = n; omega)
  | ⟨2, _⟩ => exact Fin.ext (by show r + 1 * 0 = r; omega)
  | ⟨3, _⟩ => exact Fin.ext (by show 0 + 1 * l.val = l.val; omega)

/-- Entry `l` of the last row of channel `n` of the block above. -/
theorem halo_apply (x : Vec Ideal S1x32x8x1024 .f32) (n : ℕ) (h : n < 32) (l : Fin 1024) :
    halo x n h (ix4 0 0 0 l) = x (ix4 0 ⟨n, h⟩ 7 l) := by
  refine congrArg x (funext fun a => ?_)
  match a with
  | ⟨0, _⟩ => rfl
  | ⟨1, _⟩ => exact Fin.ext (by show n + 1 * 0 = n; omega)
  | ⟨2, _⟩ => exact Fin.ext (by show 7 + 1 * 0 = 7; omega)
  | ⟨3, _⟩ => exact Fin.ext (by show 0 + 1 * l.val = l.val; omega)

/-- The factor of the halo row: zero at an image's first block, one at the others. -/
theorem scale_eq (i : grid0.Coords) : (k0_pay2 i : Ideal .f32) = if (i 0).val % 8 = 0 then (0 : EReal) else 1 := by
  have e : ∀ a : Fin 32, Scalar.cmpi .eq
      (Scalar.select (Scalar.andi (Scalar.xori (Scalar.cmpi .slt (Scalar.remsi (BitVec.ofNat 32 a.val) 8#32) 0#32)
          (Scalar.cmpi .slt 8#32 0#32)) (Scalar.cmpi .ne (Scalar.remsi (BitVec.ofNat 32 a.val) 8#32) 0#32))
        (Scalar.addi (Scalar.remsi (BitVec.ofNat 32 a.val) 8#32) 8#32) (Scalar.remsi (BitVec.ofNat 32 a.val) 8#32)) 0#32
      = if a.val % 8 = 0 then 1#1 else 0#1 := by decide
  have o : Ideal.ofBits .f32 0x3F800000#32 = 1 := by simp [Ideal.ofBits, Ideal.ieee, -EReal.coe_mul]; norm_num
  have z : Ideal.ofBits .f32 0x00000000#32 = 0 := by simp
  have k : (k0_pay2 i : Ideal .f32) = Scalar.select (if (i 0).val % 8 = 0 then 1#1 else 0#1)
      (Ideal.ofBits .f32 0x00000000#32) (Ideal.ofBits .f32 0x3F800000#32) := by
    rw [← e (i 0)]; rfl
  rw [k, o, z]
  by_cases h : (i 0).val % 8 = 0
  · rw [if_pos h, if_pos h]; rfl
  · rw [if_neg h, if_neg h]; rfl

/-- The rectangle of the whole block. -/
abbrev whole : Rect S1x128x1024 := Rect.unit ![0, 0, 0] S1x128x1024.size inb_S1x128x1024_S1x128x1024_0_0_0

/-- One store of the whole block leaves what it stores. -/
theorem canon_whole (w : whole.shape.Idx → Elt Ideal .bf16) (r : Fin 128) (l : Fin 1024) :
    View.canon [(⟨whole, w⟩ : View.Piece (Elt Ideal) S1x128x1024 .bf16)] (ix3 0 r l)
      = w (ix3 (n0 := 1) (n1 := 128) (n2 := 1024) 0 r l) := by
  have hy : whole.emb (ix3 (n0 := 1) (n1 := 128) (n2 := 1024) 0 r l) = (ix3 0 r l : S1x128x1024.Idx) := by
    funext a
    match a with
    | ⟨0, _⟩ => rfl
    | ⟨1, _⟩ => exact Fin.ext (by show 0 + 1 * r.val = r.val; omega)
    | ⟨2, _⟩ => exact Fin.ext (by show 0 + 1 * l.val = l.val; omega)
  exact (congrArg (View.canon _) hy.symm).trans (View.canon_cons_emb _ _ _ _)

/-- The rectangle of the first two rows. -/
abbrev rows : Rect S1x128x1024 := Rect.unit ![0, 0, 0] ![1, 2, 1024] inb_S1x128x1024_S1x2x1024_0_0_0

/-- A later store of the first two rows is what they hold. -/
theorem canon_rows (w : rows.shape.Idx → Elt Ideal .bf16) (L : List (View.Piece (Elt Ideal) S1x128x1024 .bf16))
    (r : Fin 128) (l : Fin 1024) (h : r.val < 2) :
    View.canon (⟨rows, w⟩ :: L) (ix3 0 r l) = w (ix3 (n0 := 1) (n1 := 2) (n2 := 1024) 0 ⟨r.val, h⟩ l) := by
  have hy : rows.emb (ix3 (n0 := 1) (n1 := 2) (n2 := 1024) 0 ⟨r.val, h⟩ l) = (ix3 0 r l : S1x128x1024.Idx) := by
    funext a
    match a with
    | ⟨0, _⟩ => rfl
    | ⟨1, _⟩ => exact Fin.ext (by show 0 + 1 * r.val = r.val; omega)
    | ⟨2, _⟩ => exact Fin.ext (by show 0 + 1 * l.val = l.val; omega)
  exact (congrArg (View.canon _) hy.symm).trans (View.canon_cons_emb _ _ _ _)

/-- The other rows are as stored before. -/
theorem canon_rest (w : rows.shape.Idx → Elt Ideal .bf16) (L : List (View.Piece (Elt Ideal) S1x128x1024 .bf16))
    (r : Fin 128) (l : Fin 1024) (h : ¬ r.val < 2) : View.canon (⟨rows, w⟩ :: L) (ix3 0 r l) = View.canon L (ix3 0 r l) := by
  refine View.canon_cons_of_not_mem _ _ ?_
  show _ ∉ rows.set
  rw [Rect.mem_set_unit]
  intro h
  have : 0 ≤ r.val ∧ r.val < 0 + 2 := h 1
  omega

/-- The sum stored in row 0. -/
theorem add_row (v : FVec Ideal S1x1024 .f32) (w : Vec Ideal S1x1x1024 .bf16) (l : Fin 1024) :
    k0_pay1 v w (ix3 0 0 l) = (w (ix3 0 0 l) : EReal) + v (ix2 0 l) := by
  pointwise [k0_pay1]

/-- The load of row 0 reads the block as first stored. -/
theorem load_row (c : Dev nD) (arg2 : Memref sig .tc .vmem S1x32x128x1024 .f32) (harg2 : arg2.IsWhole)
    (arg4 : Memref sig .tc .vmem S1x128x1024 .bf16) (x0 : Vec Ideal S1x32x128x1024 .f32) (l : Fin 1024) :
    kernelRun0.sl.v1494 c arg2 harg2 arg4 x0 (ix3 (n0 := 1) (n1 := 1) (n2 := 1024) 0 0 l)
      = View.canon (kernelRun0.sl.H2_1 c arg2 harg2 x0) (ix3 0 0 l) := by
  refine (congrFun (View.readCov_eq_canon' _ _ _) _).trans (congrArg (View.canon _) ?_)
  funext a
  match a with
  | ⟨0, _⟩ => rfl
  | ⟨1, _⟩ => rfl
  | ⟨2, _⟩ => exact Fin.ext (by show 0 + 1 * l.val = l.val; omega)

/-- So does the load of the first two rows. -/
theorem load_rows (c : Dev nD) (arg2 : Memref sig .tc .vmem S1x32x128x1024 .f32) (harg2 : arg2.IsWhole)
    (arg4 : Memref sig .tc .vmem S1x128x1024 .bf16) (x0 : Vec Ideal S1x32x128x1024 .f32) (r : Fin 128) (l : Fin 1024)
    (h : r.val < 2) :
    kernelRun0.sl.old c arg2 harg2 arg4 x0 (ix3 (n0 := 1) (n1 := 2) (n2 := 1024) 0 ⟨r.val, h⟩ l)
      = View.canon (kernelRun0.sl.H2_1 c arg2 harg2 x0) (ix3 0 r l) := by
  refine (congrFun (View.readCov_eq_canon' _ _ _) _).trans (congrArg (View.canon _) ?_)
  funext a
  match a with
  | ⟨0, _⟩ => rfl
  | ⟨1, _⟩ => exact Fin.ext (by show 0 + 1 * r.val = r.val; omega)
  | ⟨2, _⟩ => exact Fin.ext (by show 0 + 1 * l.val = l.val; omega)

section

variable (X : Images) (b t : ℕ) (x0 : Vec Ideal S1x32x128x1024 .f32) (x1 : Vec Ideal S1x32x8x1024 .f32)

/-- What the body stores for one channel: the magnitude, with the block's last row in place of the row above row 0. -/
def wrapped (n : ℕ) (r : Fin 128) (l : ℕ) : ℝ :=
  rootR (left X b n (128 * t + r.val) l - cell X b n (128 * t + r.val) l)
    (cell X b n (128 * t + (above r).val) l - cell X b n (128 * t + r.val) l)

/-- Off row 0 it is the magnitude itself. -/
theorem wrapped_of_pos {n : ℕ} {r : Fin 128} {l : ℕ} (hr : 0 < r.val) : wrapped X b t n r l = grad X b n (128 * t + r.val) l := by
  have h := r.isLt
  have e : (above r).val = r.val - 1 := by show (r.val + 128 - 1) % 128 = r.val - 1; omega
  unfold wrapped grad upper
  rw [e, if_neg (by omega), show 128 * t + (r.val - 1) = 128 * t + r.val - 1 by omega]

variable {X b t x0 x1} (ht : t < 8)
  (h0 : ∀ (n : Fin 32) (r : Fin 128) (l : Fin 1024), x0 (ix4 0 n r l) = cell X b n.val (128 * t + r.val) l.val)
  (h1 : t ≠ 0 → ∀ (n : Fin 32) (l : Fin 1024), x1 (ix4 0 n 7 l) = cell X b n.val (128 * t - 1) l.val)

include h0

/-- The left neighbour, read in the block. -/
theorem left_apply (n : Fin 32) (r : Fin 128) (l : Fin 1024) :
    (if l.val = 0 then (0 : EReal) else x0 (ix4 0 n r (before l))) = left X b n.val (128 * t + r.val) l.val := by
  have hl := l.isLt
  unfold left
  by_cases h : l.val = 0
  · rw [if_pos h, if_pos h]
  · rw [if_neg h, if_neg h, h0]
    have e : (before l).val = l.val - 1 := by show (l.val + 1024 - 1) % 1024 = l.val - 1; omega
    rw [e]

/-- The stored sum, before the correction. -/
theorem acc_apply (n : ℕ) (hn : n < 32) (r : Fin 128) (l : Fin 1024) :
    acc x0 n hn (ix2 r l) = ((∑ k ∈ Finset.range (n + 1), wrapped X b t k r l.val : ℝ) : EReal) := by
  have one : ∀ (m : ℕ) (hm : m < 32), k0_pay4 (chan x0 m hm) (ix2 r l) = (wrapped X b t m r l.val : EReal) := by
    intro m hm
    rw [term_apply, chan_apply, chan_apply, chan_apply, left_apply h0, h0, h0]
    rfl
  induction n with
  | zero => rw [Finset.sum_range_one]; exact one 0 hn
  | succ n ih =>
    rw [Finset.sum_range_succ, EReal.coe_add, ← ih (Nat.lt_of_succ_lt hn), ← one (n + 1) hn]
    rfl

/-- The block as first stored. -/
theorem first_apply (c : Dev nD) (arg2 : Memref sig .tc .vmem S1x32x128x1024 .f32) (harg2 : arg2.IsWhole)
    (r : Fin 128) (l : Fin 1024) : View.canon (kernelRun0.sl.H2_1 c arg2 harg2 x0) (ix3 0 r l)
      = ((∑ k ∈ Finset.range 32, wrapped X b t k r l.val : ℝ) : EReal) := by
  rw [first_store, harg2.read_unread, canon_whole, ← acc_apply h0 31 (by omega)]
  pointwise

include h1 ht

/-- The correction of row 0. -/
theorem corr_sum (i : grid0.Coords) (hi : (i 0).val % 8 = t) (n : ℕ) (hn : n < 32) (l : Fin 1024) :
    corr i x0 x1 n hn (ix2 0 l)
      = ((∑ k ∈ Finset.range (n + 1), (grad X b k (128 * t) l.val - wrapped X b t k 0 l.val) : ℝ) : EReal) := by
  have one : ∀ (m : ℕ) (hm : m < 32), k0_pay5 (k0_pay2 i) k0_pay3 (row x0 m 0 hm (by omega)) (row x0 m 127 hm (by omega))
      (halo x1 m hm) (ix2 0 l) = ((grad X b m (128 * t) l.val - wrapped X b t m 0 l.val : ℝ) : EReal) := by
    intro m hm
    rw [corr_apply, row_apply, row_apply, row_apply, halo_apply, left_apply h0 ⟨m, hm⟩ ⟨0, by omega⟩, h0, h0, EReal.coe_sub]
    have u : x1 (ix4 0 ⟨m, hm⟩ 7 l) * (k0_pay2 i : Ideal .f32) = upper X b m (128 * t) l.val := by
      rw [scale_eq, hi]
      unfold upper
      by_cases h : t = 0
      · rw [if_pos h, if_pos (by omega), mul_zero]
      · rw [if_neg h, if_neg (by omega), mul_one, h1 h]
    refine congrArg₂ (fun a b : EReal => a - b) (congrArg Real.toEReal ?_) rfl
    exact congrArg (fun z => rootR (left X b m (128 * t + 0) l.val - cell X b m (128 * t + 0) l.val)
      (z - cell X b m (128 * t + 0) l.val)) u
  induction n with
  | zero => rw [Finset.sum_range_one]; exact one 0 hn
  | succ n ih =>
    rw [Finset.sum_range_succ, EReal.coe_add, ← ih (Nat.lt_of_succ_lt hn) one, ← one (n + 1) hn]
    rfl

/-- What the body leaves at an entry is the channel sum there. -/
theorem out_apply (c : Dev nD) (i : grid0.Coords) (hi : (i 0).val % 8 = t)
    (arg2 : Memref sig .tc .vmem S1x32x128x1024 .f32) (harg2 : arg2.IsWhole)
    (arg3 : Memref sig .tc .vmem S1x32x8x1024 .f32) (harg3 : arg3.IsWhole)
    (arg4 : Memref sig .tc .vmem S1x128x1024 .bf16) (harg4 : arg4.IsWhole) (r : Fin 128) (l : Fin 1024) :
    out0_2 c i arg2 harg2 arg3 harg3 arg4 harg4 x0 x1 (ix3 0 r l) = (gsum X b (128 * t + r.val) l.val : EReal) := by
  have hl := l.isLt
  unfold out0_2
  rw [View.read_writes_junk_eq_canon, stores]
  by_cases hr2 : r.val < 2
  · rw [canon_rows _ _ r l hr2, updateSlice_apply]
    by_cases hr0 : r.val = 0
    · refine (dif_pos ?_).trans ?_
      · intro a
        match a with
        | ⟨0, _⟩ => show 0 ≤ 0 ∧ 0 < 0 + 1; omega
        | ⟨1, _⟩ => show 0 ≤ r.val ∧ r.val < 0 + 1; omega
        | ⟨2, _⟩ => show 0 ≤ l.val ∧ l.val < 0 + 1024; omega
      · obtain rfl : r = 0 := Fin.ext hr0
        refine (congrArg (k0_pay1 _ _) (show _ = ix3 0 0 l from ?_)).trans ?_
        · funext a
          match a with
          | ⟨0, _⟩ => rfl
          | ⟨1, _⟩ => rfl
          | ⟨2, _⟩ => rfl
        · rw [add_row, row_correction, harg2.read_unread, harg3.read_unread, corr_sum ht h0 h1 i hi,
            load_row, first_apply h0, ← EReal.coe_add, ← Finset.sum_add_distrib]
          refine congrArg Real.toEReal (Finset.sum_congr rfl fun k _ => ?_)
          show wrapped X b t k 0 l.val + (grad X b k (128 * t) l.val - wrapped X b t k 0 l.val) = _
          rw [add_sub_cancel]
          rfl
    · refine (dif_neg ?_).trans ?_
      · intro hin
        have h : 0 ≤ r.val ∧ r.val < 0 + 1 := hin 1
        omega
      · rw [load_rows _ _ _ _ _ r l hr2, first_apply h0]
        exact congrArg Real.toEReal (Finset.sum_congr rfl fun k _ => wrapped_of_pos X b t (by omega))
  · rw [canon_rest _ _ r l hr2, first_apply h0]
    exact congrArg Real.toEReal (Finset.sum_congr rfl fun k _ => wrapped_of_pos X b t (by omega))

end

end Cert.KernelIdeal.Block

end
-- ==== Proof.ImageValue.lean ====
/-
  The array the gradient kernel leaves: entry `(b, y, x)` is the channel sum of the gradient magnitudes there.
-/
module

public import proofs.«01_k».proof.Proof.BlockValue
public import Idealize.ShloMosaic.Lib.Pipeline.ValueKit

@[expose] public section

set_option maxRecDepth 16384

noncomputable section

namespace Cert.KernelIdeal.Block

open Cert.KernelIdeal Cert.KernelIdeal.Gen Cert.KernelIdeal.Run Cert.Grad
open Idealize.ShloMosaic Idealize.ShloMosaic.TcCoe Idealize.ShloMosaic.Tactic
open Idealize.SL

/-- Where the image window stands at point `t`: image `t / 8`, row block `t % 8`. -/
theorem image_index : ∀ t : Fin cfg0.N, win0_0.index t = ![t.val / 8, 0, t.val % 8, 0] :=
  (by decide +kernel : ∀ t : Fin grid0.N, win0_0.index t = ![t.val / 8, 0, t.val % 8, 0])

/-- Where the halo window stands: the eight rows that end just above the row block (the first eight at the top). -/
theorem halo_index : ∀ t : Fin cfg0.N, win0_1.index t = ![t.val / 8, 0, t.val % 8 * 16 - 1, 0] :=
  (by decide +kernel : ∀ t : Fin grid0.N, win0_1.index t = ![t.val / 8, 0, t.val % 8 * 16 - 1, 0])

/-- Where the result window stands. -/
theorem result_index : ∀ t : Fin cfg0.N, win0_2.index t = ![t.val / 8, t.val % 8, 0] :=
  (by decide +kernel : ∀ t : Fin grid0.N, win0_2.index t = ![t.val / 8, t.val % 8, 0])

/-- The body's first coordinate, reduced, is the row block. -/
theorem row_block : ∀ t : Fin cfg0.N, (grid0.coords t 0).val % 8 = t.val % 8 :=
  (by decide +kernel : ∀ t : Fin grid0.N, (grid0.coords t 0).val % 8 = t.val % 8)

variable (V : (c : Dev nD) → (b : Ref sig .tc) → Buf (Elt Ideal) ((c : Thread nD τ).loc b))

/-- The images as the region finds them. -/
abbrev images (c : Dev nD) : Images := V c main_arg0

/-- The image block at a point holds rows `128 (t % 8) …` of image `t / 8`. -/
theorem image_block (c : Dev nD) (t : Fin cfg0.N) (n : Fin 32) (r : Fin 128) (l : Fin 1024) :
    (iblk0 V c 0 t : S1x32x128x1024.Idx → EReal) (ix4 0 n r l)
      = cell (images V c) (t.val / 8) n.val (128 * (t.val % 8) + r.val) l.val := by
  have ht : t.val < 32 := t.isLt.trans_eq (by decide : cfg0.N = 32)
  rw [cell_of (by omega) n.isLt (by omega) l.isLt]
  blk_ext [iblk0, image_index]

/-- The last row of the halo block at a point is the row just above the row block. -/
theorem halo_block (c : Dev nD) (t : Fin cfg0.N) (h : t.val % 8 ≠ 0) (n : Fin 32) (l : Fin 1024) :
    (iblk0 V c 1 t : S1x32x8x1024.Idx → EReal) (ix4 0 n 7 l)
      = cell (images V c) (t.val / 8) n.val (128 * (t.val % 8) - 1) l.val := by
  have ht : t.val < 32 := t.isLt.trans_eq (by decide : cfg0.N = 32)
  rw [cell_of (by omega) n.isLt (by omega) l.isLt]
  blk_ext [iblk0, halo_index]

/-- What the gradient kernel leaves at a point. -/
theorem outs_apply (c : Dev nD) (t : Fin cfg0.N) (r : Fin 128) (l : Fin 1024) :
    (outsAt0 V c t : S1x128x1024.Idx → EReal) (ix3 0 r l)
      = (gsum (images V c) (t.val / 8) (128 * (t.val % 8) + r.val) l.val : EReal) :=
  out_apply (Nat.mod_lt _ (by omega)) (image_block V c t) (halo_block V c t) c _ (row_block t) _ _ _ _ _ _ r l

/-- The channel sums as an array. -/
def sums (X : Images) : S4x1024x1024.Idx → EReal := fun i => (gsum X (i 0).val (i 1).val (i 2).val : EReal)

/-- The array the region leaves. -/
theorem image_array (c : Dev nD) :
    (dat0 V c).arrAt 2 cfg0.N = sums (images V c) := by
  refine (dat0 V c).arrAt_eq_of_covers 2 _ (by decide +kernel) fun t hf y => ?_
  blk_simp
  rw [after0_2]
  have ht : t.val < 32 := t.isLt.trans_eq (by decide : cfg0.N = 32)
  have e : (y : S1x128x1024.Idx) = ix3 (0 : Fin 1) (y 1) (y 2) := by
    funext a
    match a with
    | ⟨0, _⟩ => exact Subsingleton.elim (α := Fin 1) _ _
    | ⟨1, _⟩ => rfl
    | ⟨2, _⟩ => rfl
  refine (congrArg (outsAt0 V c t : S1x128x1024.Idx → EReal) e).trans ((outs_apply V c t (y 1) (y 2)).trans ?_)
  unfold sums
  have y0 : (y 0).val = 0 := Nat.lt_one_iff.mp (show (y 0).val < 1 from (y 0).isLt)
  blk_simp [result_index]
  rw [Nat.mul_comm (t.val % 8) 128]

end Cert.KernelIdeal.Block

end
-- ==== Proof.BandValue.lean ====
/-
  The band the host builds between the two kernels: entry `(i, j)` is 1 where `i` and `j` are at most 25 apart, else 0.
-/
module

public import proofs.«01_k».proof.Proof.ImageValue
public import Idealize.ShloMosaic.Lib.WordCmp

@[expose] public section

set_option maxRecDepth 16384

noncomputable section

namespace Cert.KernelIdeal.Block

open Cert.KernelIdeal Cert.KernelIdeal.Gen Cert.KernelIdeal.Run Cert.Grad
open Idealize.ShloMosaic Idealize.ShloMosaic.TcCoe Idealize.ShloMosaic.Tactic
open Idealize.SL

/-- The band as the host writes it. -/
def bandOf : S1024x1024.Idx → EReal :=
  (uitofp (F := Ideal) .bf16 (cmpi .sle (absi (subi
      (broadcastInDim S1024x1024 ![0, 1] bcast_S1024x1_S1024x1024_0_1
        (broadcastInDim S1024x1 ![0] bcast_S1024_S1024x1_0 (iotaInDim S1024 32 0)))
      (broadcastInDim S1024x1024 ![0, 1] bcast_S1x1024_S1024x1024_0_1
        (broadcastInDim S1x1024 ![1] bcast_S1024_S1x1024_1 (iotaInDim S1024 32 0)))))
    (broadcastInDim S1024x1024 ![] bcast_S_S1024x1024 (constantI S_ 32 25#32))))

/-- The host stretch leaves it, whatever it starts from. -/
theorem band_after (W : Valuation τ sig (Elt Ideal)) :
    StableHlo.after hostOps1 W (Proc.devRef .tc main_v10) = bandOf := by
  unfold bandOf hostOps1
  after_results
  try rfl

/-- Below 1024, the word test `|i - j| ≤ 25` is the test on numbers. -/
theorem near_word (i j : Fin 1024) :
    IntOp.cmpi CmpIPredicate.sle (IntOp.absi (BitVec.ofNat 32 i.val - BitVec.ofNat 32 j.val)) 25#32
      = if i.val ≤ j.val + 25 ∧ j.val ≤ i.val + 25 then 1#1 else 0#1 := by
  have hi := i.isLt
  have hj := j.isLt
  have e : IntOp.absi (BitVec.ofNat 32 i.val - BitVec.ofNat 32 j.val)
      = BitVec.ofNat 32 ((i.val - j.val) + (j.val - i.val)) := by
    unfold IntOp.absi
    by_cases h : j.val ≤ i.val
    · have : (BitVec.ofNat 32 i.val - BitVec.ofNat 32 j.val).msb = false := by
        rw [BitVec.msb_eq_false_iff_two_mul_lt]; bv_omega
      rw [this]; apply BitVec.eq_of_toNat_eq; simp; omega
    · have : (BitVec.ofNat 32 i.val - BitVec.ofNat 32 j.val).msb = true := by
        rw [BitVec.msb_eq_true_iff_two_mul_ge]; bv_omega
      rw [this]; apply BitVec.eq_of_toNat_eq; simp; omega
  rw [e]
  have hlt : (i.val - j.val) + (j.val - i.val) < 1024 := by omega
  generalize hn : (i.val - j.val) + (j.val - i.val) = n at hlt
  have hc : (i.val ≤ j.val + 25 ∧ j.val ≤ i.val + 25) ↔ n ≤ 25 := by omega
  rw [if_congr hc rfl rfl]
  have ht : (BitVec.ofNat 32 n).toInt = n := by
    rw [BitVec.toInt_eq_toNat_of_lt] <;> simp <;> omega
  have hs : (BitVec.ofNat 32 n).sle 25#32 = decide (n ≤ 25) := by
    rw [BitVec.sle, ht]; simp
  show BitVec.ofBool ((BitVec.ofNat 32 n).sle 25#32) = _
  rw [hs]
  by_cases h : n ≤ 25 <;> simp [h]

/-- Its entries. -/
theorem band_apply (i j : Fin 1024) :
    bandOf (ix2 i j) = (((if i.val ≤ j.val + 25 ∧ j.val ≤ i.val + 25 then 1 else 0 : ℝ)) : EReal) := by
  pointwise [bandOf]
  refine (congrArg (FloatOps.uitofp (F := Ideal) FTy.bf16) (near_word i j)).trans ?_
  by_cases h : i.val ≤ j.val + 25 ∧ j.val ≤ i.val + 25
  · rw [if_pos h, if_pos h]
    show (((1#1 : BitVec 1).toNat : ℝ) : EReal) = _
    norm_num
  · rw [if_neg h, if_neg h]
    show (((0#1 : BitVec 1).toNat : ℝ) : EReal) = _
    norm_num

end Cert.KernelIdeal.Block

end
-- ==== Proof.BoxValue.lean ====
/-
  The box kernel over the extended reals: band times image times band is the window sum along both axes; and the
  array the second region leaves.
-/
module

public import proofs.«01_k».proof.Proof.BandValue

@[expose] public section

set_option maxRecDepth 16384

noncomputable section

namespace Cert.KernelIdeal.Block

open Cert.KernelIdeal Cert.KernelIdeal.Gen Cert.KernelIdeal.Run Cert.Grad
open Idealize.ShloMosaic Idealize.ShloMosaic.TcCoe Idealize.ShloMosaic.Tactic
open Idealize.SL

/-- The weight of one entry in a window. -/
def near (i j : ℕ) : ℝ := if i ≤ j + 25 ∧ j ≤ i + 25 then 1 else 0

/-- A window sum is a weighted sum with the weights on the left, -/
theorem sum_near_left (f : ℕ → ℝ) (j : ℕ) : ∑ k : Fin 1024, near j k.val * f k.val = win f j := by
  rw [Fin.sum_univ_eq_sum_range fun k => near j k * f k]
  refine Finset.sum_congr rfl fun k _ => ?_
  unfold near
  by_cases h : k ≤ j + 25 ∧ j ≤ k + 25
  · rw [if_pos h, if_pos h.symm, one_mul]
  · rw [if_neg h, if_neg fun h' => h h'.symm, zero_mul]

/-- or on the right. -/
theorem sum_near_right (f : ℕ → ℝ) (j : ℕ) : ∑ k : Fin 1024, f k.val * near k.val j = win f j := by
  rw [← sum_near_left]
  refine Finset.sum_congr rfl fun k _ => ?_
  rw [mul_comm]; congr 1
  unfold near
  exact if_congr and_comm rfl rfl

/-- The box kernel's store at an entry: a sum of sums. -/
theorem pay_apply (A : Vec Ideal S1024x1024 .bf16) (g : Vec Ideal S1x1024x1024 .bf16) (y x : Fin 1024) :
    (k1_pay1 A g : S1x1024x1024.Idx → EReal) (ix3 0 y x)
      = ∑ k : Fin 1024, (∑ j : Fin 1024, (A (ix2 y j) : EReal) * g (ix3 0 j k)) * A (ix2 k x) := by
  pointwise [k1_pay1]

/-- On finite entries, with the band, it is the double window sum. -/
theorem pay_box {A : Vec Ideal S1024x1024 .bf16} {g : Vec Ideal S1x1024x1024 .bf16} {f : ℕ → ℕ → ℝ}
    (hA : ∀ i j : Fin 1024, A (ix2 i j) = (near i.val j.val : EReal))
    (hg : ∀ y x : Fin 1024, g (ix3 0 y x) = (f y.val x.val : EReal)) (y x : Fin 1024) :
    (k1_pay1 A g : S1x1024x1024.Idx → EReal) (ix3 0 y x)
      = (win (fun a => win (fun k => f a k) x.val) y.val : EReal) := by
  rw [pay_apply, win_comm]
  have inner : ∀ k : Fin 1024, (∑ j : Fin 1024, (A (ix2 y j) : EReal) * g (ix3 0 j k))
      = (win (fun a => f a k.val) y.val : EReal) := fun k => by
    rw [← sum_near_left, coe_sum]
    exact Finset.sum_congr rfl fun j _ => by rw [hA, hg]; exact (EReal.coe_mul _ _).symm
  rw [← sum_near_right (fun k => win (fun a => f a k) y.val), coe_sum]
  exact Finset.sum_congr rfl fun k _ => by rw [inner, hA]; exact (EReal.coe_mul _ _).symm

/-- The one store is the whole block, of the whole inputs. -/
theorem out1_eq (x0 : Vec Ideal S1x1024x1024 .bf16) (x1 : Vec Ideal S1024x1024 .bf16) :
    out1_2 x0 x1 = k1_pay1 x1 x0 := by
  have z2 : (![0, 0] : Fin 2 → ℕ) = fun _ => 0 := by funext a; fin_cases a <;> rfl
  have z3 : (![0, 0, 0] : Fin 3 → ℕ) = fun _ => 0 := by funext a; fin_cases a <;> rfl
  refine (View.canon_unit_zero (Val := Elt Ideal) z3 inb_S1x1024x1024_S1x1024x1024_0_0_0 _).trans ?_
  exact congrArg₂ k1_pay1 (View.ld_unit_zero z2 _ x1) (View.ld_unit_zero z3 _ x0)

variable (V : (c : Dev nD) → (b : Ref sig .tc) → Buf (Elt Ideal) ((c : Thread nD τ).loc b))

/-- The image window stands at image `t`. -/
theorem box_image_index : ∀ t : Fin cfg1.N, win1_0.index t = ![t.val, 0, 0] :=
  (by decide +kernel : ∀ t : Fin grid1.N, win1_0.index t = ![t.val, 0, 0])

/-- The band window is the whole band. -/
theorem box_band_index : ∀ t : Fin cfg1.N, win1_1.index t = ![0, 0] :=
  (by decide +kernel : ∀ t : Fin grid1.N, win1_1.index t = ![0, 0])

/-- The result window stands at image `t`. -/
theorem box_result_index : ∀ t : Fin cfg1.N, win1_2.index t = ![t.val, 0, 0] :=
  (by decide +kernel : ∀ t : Fin grid1.N, win1_2.index t = ![t.val, 0, 0])

/-- The result as an array. -/
def boxes (X : Images) : S4x1024x1024.Idx → EReal := fun i => (out X (i 0).val (i 1).val (i 2).val : EReal)

/-- Started on the channel sums and the band, the second region leaves the box sums. -/
theorem box_array (c : Dev nD) (X : Images) (hg : V c main_v0 = sums X) (hb : V c main_v10 = bandOf) :
    (dat1 V c).arrAt 2 cfg1.N = boxes X := by
  refine (dat1 V c).arrAt_eq_of_covers 2 _ (by decide +kernel) fun t hf y => ?_
  blk_simp
  rw [after1_2, out1_eq]
  have ht : t.val < 4 := t.isLt.trans_eq (by decide : cfg1.N = 4)
  have e : (y : S1x1024x1024.Idx) = ix3 (0 : Fin 1) (y 1) (y 2) := by
    funext a
    match a with
    | ⟨0, _⟩ => exact Subsingleton.elim (α := Fin 1) _ _
    | ⟨1, _⟩ => rfl
    | ⟨2, _⟩ => rfl
  have image : ∀ r l : Fin 1024, (iblk1 V c 0 t : S1x1024x1024.Idx → EReal) (ix3 0 r l) = (gsum X t.val r.val l.val : EReal) :=
    fun r l => by
      blk_simp [iblk1]
      refine (congrFun hg _).trans ?_
      unfold sums
      blk_simp [box_image_index]
      rw [show t.val + (0 : Fin 1).val = t.val from rfl]
  have band : ∀ i j : Fin 1024, (iblk1 V c 1 t : S1024x1024.Idx → EReal) (ix2 i j) = (near i.val j.val : EReal) :=
    fun i j => by
      refine Eq.trans ?_ (band_apply i j)
      blk_simp [iblk1]
      refine (congrFun hb _).trans ?_
      blk_ext [box_band_index]
  refine (congrArg (k1_pay1 (iblk1 V c 1 t) (iblk1 V c 0 t) : S1x1024x1024.Idx → EReal) e).trans ((pay_box band image (y 1) (y 2)).trans ?_)
  unfold boxes out
  have y0 : (y 0).val = 0 := Nat.lt_one_iff.mp (show (y 0).val < 1 from (y 0).isLt)
  blk_simp [box_result_index]

end Cert.KernelIdeal.Block

end
-- ==== Proof.RefBox.lean ====
/-
  The reference's box sum along the last axis: pad by 25 zeros on either side, take the running sum, put a zero in
  front, and subtract the running sum from itself 51 entries later. On an array of reals it is the window's sum.
-/
module

public import proofs.«01_k».proof.Proof.Gen.ReferenceIdeal.Run
public import proofs.«01_k».proof.Proof.Window
public import Idealize.ShloMosaic.Lib.Pointwise

@[expose] public section

set_option maxRecDepth 16384

noncomputable section

namespace Cert.RefValue

open Cert.ReferenceIdeal Cert.ReferenceIdeal.Gen Cert.Grad
open Idealize.ShloMosaic Idealize.ShloMosaic.TcCoe Idealize.SL.Sem

/-- The array with 25 zeros before and after along the last axis. -/
def padLast (x : FVec Ideal S4x1024x1024 .f32) : FVec Ideal S4x1024x1074 .f32 :=
  pad S4x1024x1074 ![0, 0, 25] ![0, 0, 25] ![0, 0, 0] x (sitofp .f32 (constantI S_ 32 0#32))
    pads_S4x1024x1024_S4x1024x1074_000_000_25250 h_S_

/-- Its running sum along the last axis, as a sum over windows of the line's whole length. -/
def runLast (p : FVec Ideal S4x1024x1074 .f32) : FVec Ideal S4x1024x1074 .f32 :=
  Host.reduceWindowAdd ![1, 1, 1074] ![1, 1, 1] ![0, 0, 1073] ![0, 0, 0] p
    (broadcastInDim S_ ![] bcast_S_S_ (constant S_ .f32 0x00000000#32))
    reduceWindows_S4x1024x1074_S4x1024x1074_w1s1p0_0_w1s1p0_0_w1074s1p1073_0 h_S_

/-- The running sum with a zero in front. -/
def prefLast (p : FVec Ideal S4x1024x1074 .f32) : FVec Ideal S4x1024x1075 .f32 :=
  concatenate S4x1024x1075 2
    [⟨S4x1024x1, (broadcastInDim S4x1024x1 ![] bcast_S_S4x1024x1 (constant S_ .f32 0x00000000#32))⟩,
      ⟨S4x1024x1074, runLast p⟩] concatenates_S4x1024x1_S4x1024x1074_S4x1024x1075_d2

/-- The box sum along the last axis. -/
def boxLast (x : FVec Ideal S4x1024x1024 .f32) : FVec Ideal S4x1024x1024 .f32 :=
  subf (extractStridedSlice S4x1024x1024 ![0, 0, 51] (prefLast (padLast x)) slices_S4x1024x1075_S4x1024x1024_0_0_51)
    (extractStridedSlice S4x1024x1024 ![0, 0, 0] (prefLast (padLast x)) slices_S4x1024x1075_S4x1024x1024_0_0_0)

/-- An array that holds the reals `f b y k`. -/
def Holds {n : ℕ} (x : (⟨3, ![4, 1024, n]⟩ : Shape).Idx → EReal) (f : ℕ → ℕ → ℕ → ℝ) : Prop :=
  ∀ (b : Fin 4) (y : Fin 1024) (k : Fin n), x (ix3 b y k) = (f b.val y.val k.val : EReal)

/-- The zero the reference pads with. -/
theorem pad_zero : sitofp (F := Ideal) .f32 (constantI S_ 32 0#32) (Shape.Idx.first h_S_) = (0 : EReal) := by
  show (((0#32 : BitVec 32).toInt : ℝ) : EReal) = 0
  simp

/-- The padded array holds the padded lines. -/
theorem padLast_holds {x : FVec Ideal S4x1024x1024 .f32} {f : ℕ → ℕ → ℕ → ℝ} (h : Holds x f) :
    Holds (padLast x) fun b y k => padded (f b y) k := by
  intro b y k
  have hb := b.isLt
  have hy := y.isLt
  unfold padLast padded
  rw [pad_apply, pad_zero]
  dsimp only
  by_cases hk : 25 ≤ k.val ∧ k.val < 1049
  · rw [dif_pos, if_pos hk]
    · refine Eq.trans (congrArg x ?_) (h b y ⟨k.val - 25, by omega⟩)
      funext a
      match a with
      | ⟨0, _⟩ => exact Fin.ext (by show (b.val - 0) / (0 + 1) = b.val; omega)
      | ⟨1, _⟩ => exact Fin.ext (by show (y.val - 0) / (0 + 1) = y.val; omega)
      | ⟨2, _⟩ => exact Fin.ext (by show (k.val - 25) / (0 + 1) = k.val - 25; omega)
    · intro a
      match a with
      | ⟨0, _⟩ => show 0 ≤ b.val ∧ (b.val - 0) % (0 + 1) = 0 ∧ (b.val - 0) / (0 + 1) < 4; omega
      | ⟨1, _⟩ => show 0 ≤ y.val ∧ (y.val - 0) % (0 + 1) = 0 ∧ (y.val - 0) / (0 + 1) < 1024; omega
      | ⟨2, _⟩ => show 25 ≤ k.val ∧ (k.val - 25) % (0 + 1) = 0 ∧ (k.val - 25) / (0 + 1) < 1024; omega
  · rw [dif_neg, if_neg hk]
    · rfl
    · intro hin
      have h2 : 25 ≤ k.val ∧ (k.val - 25) % (0 + 1) = 0 ∧ (k.val - 25) / (0 + 1) < 1024 := hin 2
      omega

/-- A left fold of sums is the sum. -/
theorem foldl_add_eq {N : ℕ} (g : Fin N → EReal) (v : EReal) :
    (List.finRange N).foldl (fun r n => r + g n) v = v + ∑ n, g n := by
  rw [← List.sum_ofFn, List.ofFn_eq_map]
  generalize List.finRange N = l
  induction l generalizing v with
  | nil => simp
  | cons a l ih => rw [List.foldl_cons, ih, List.map_cons, List.sum_cons, add_assoc]

/-- The `n`-th position of a window of one by one by 1074. -/
def winIdx (n : Fin (⟨3, ![1, 1, 1074]⟩ : Shape).numel) : (⟨3, ![1, 1, 1074]⟩ : Shape).Idx :=
  (Shape.rowMajor ⟨3, ![1, 1, 1074]⟩).symm n

/-- The running sum of an array of reals. -/
theorem runLast_holds {p : FVec Ideal S4x1024x1074 .f32} {g : ℕ → ℕ → ℕ → ℝ} (h : Holds p g) :
    Holds (runLast p) fun b y k => ∑ n ∈ Finset.range (k + 1), g b y n := by
  intro b y k
  have hb := b.isLt
  have hy := y.isLt
  have hk := k.isLt
  have hz : (broadcastInDim S_ ![] bcast_S_S_ (constant (F := Ideal) S_ .f32 0x00000000#32)) (Shape.Idx.first h_S_) = (0 : EReal) := by
    simp [broadcastInDim, constant]
  unfold runLast Host.reduceWindowAdd
  rw [Ideal.hostReduceWindowAdd_def, hz]
  unfold Ideal.hostReduceWindowAdd Host.reduceWindow
  refine (foldl_add_eq _ _).trans ((zero_add _).trans ((Fintype.sum_equiv (Shape.rowMajor ⟨3, ![1, 1, 1074]⟩).symm _
    (fun w => ((if 1074 - 1 ≤ k.val + (w 2).val ∧ k.val + (w 2).val - (1074 - 1) < 1074 then
      g b.val y.val (k.val + (w 2).val - (1074 - 1)) else 0 : ℝ) : EReal)) (fun n => ?_)).trans ?_))
  · have h0 : (winIdx n 0).val = 0 := Nat.lt_one_iff.mp (winIdx n 0).isLt
    have h1 : (winIdx n 1).val = 0 := Nat.lt_one_iff.mp (winIdx n 1).isLt
    change _ = ((if 1074 - 1 ≤ k.val + (winIdx n 2).val ∧ k.val + (winIdx n 2).val - (1074 - 1) < 1074 then
      g b.val y.val (k.val + (winIdx n 2).val - (1074 - 1)) else 0 : ℝ) : EReal)
    by_cases hc : 1074 - 1 ≤ k.val + (winIdx n 2).val ∧ k.val + (winIdx n 2).val - (1074 - 1) < 1074
    · rw [if_pos hc]
      refine (dif_pos ?_).trans ?_
      · intro a
        match a with
        | ⟨0, _⟩ => show 0 ≤ b.val * 1 + (winIdx n 0).val ∧ b.val * 1 + (winIdx n 0).val - 0 < 4; omega
        | ⟨1, _⟩ => show 0 ≤ y.val * 1 + (winIdx n 1).val ∧ y.val * 1 + (winIdx n 1).val - 0 < 1024; omega
        | ⟨2, _⟩ => show 1073 ≤ k.val * 1 + (winIdx n 2).val ∧ k.val * 1 + (winIdx n 2).val - 1073 < 1074; omega
      · refine Eq.trans (congrArg p ?_) (h b y ⟨k.val + (winIdx n 2).val - (1074 - 1), hc.2⟩)
        funext a
        match a with
        | ⟨0, _⟩ => exact Fin.ext (by show b.val * 1 + (winIdx n 0).val - 0 = b.val; omega)
        | ⟨1, _⟩ => exact Fin.ext (by show y.val * 1 + (winIdx n 1).val - 0 = y.val; omega)
        | ⟨2, _⟩ => exact Fin.ext (by show k.val * 1 + (winIdx n 2).val - 1073 = k.val + (winIdx n 2).val - (1074 - 1); omega)
    · rw [if_neg hc]
      refine (dif_neg ?_).trans EReal.coe_zero.symm
      intro hin
      have h2 : 1073 ≤ k.val * 1 + (winIdx n 2).val ∧ k.val * 1 + (winIdx n 2).val - 1073 < 1074 := hin 2
      omega
  · rw [sum_idx3, Fin.sum_univ_one, Fin.sum_univ_one, ← coe_sum]
    refine congrArg _ ?_
    dsimp only
    rw [← sum_running (g b.val y.val) hk, Finset.sum_range]
    rfl

/-- With the zero in front, entry `k` is the sum of the first `k` entries. -/
theorem prefLast_holds {p : FVec Ideal S4x1024x1074 .f32} {g : ℕ → ℕ → ℕ → ℝ} (h : Holds p g) :
    Holds (prefLast p) fun b y k => ∑ n ∈ Finset.range k, g b y n := by
  intro b y k
  have hk := k.isLt
  unfold prefLast
  rw [concatenate_pair_apply]
  by_cases hc : k.val < 1
  · refine (dif_pos hc).trans ?_
    have : k.val = 0 := by omega
    rw [this]
    simp [broadcastInDim, constant]
  · refine (dif_neg hc).trans ?_
    refine Eq.trans (congrArg (runLast p) ?_) ((runLast_holds h b y ⟨k.val - 1, by omega⟩).trans ?_)
    · funext a
      match a with
      | ⟨0, _⟩ => rfl
      | ⟨1, _⟩ => rfl
      | ⟨2, _⟩ => rfl
    · show ((∑ n ∈ Finset.range (k.val - 1 + 1), g b.val y.val n : ℝ) : EReal) = _
      rw [show k.val - 1 + 1 = k.val by omega]

/-- The box sum of an array of reals: the window's sum along the last axis. -/
theorem boxLast_holds {x : FVec Ideal S4x1024x1024 .f32} {f : ℕ → ℕ → ℕ → ℝ} (h : Holds x f) :
    Holds (boxLast x) fun b y k => win (f b y) k := by
  intro b y k
  have hk := k.isLt
  have hp := prefLast_holds (padLast_holds h) b y
  unfold boxLast
  refine Eq.trans ?_ (congrArg _ (prefix_sub_eq_win (f b.val y.val) hk))
  rw [EReal.coe_sub]
  refine congrArg₂ (fun a c : EReal => a - c) (Eq.trans (congrArg (prefLast (padLast x)) ?_) ((hp ⟨k.val + 51, by omega⟩).trans rfl))
    (Eq.trans (congrArg (prefLast (padLast x)) ?_) ((hp ⟨k.val, by omega⟩).trans rfl))
  · funext a
    match a with
    | ⟨0, _⟩ => exact Fin.ext (by show 0 + b.val = b.val; omega)
    | ⟨1, _⟩ => exact Fin.ext (by show 0 + y.val = y.val; omega)
    | ⟨2, _⟩ => exact Fin.ext (by show 51 + k.val = k.val + 51; omega)
  · funext a
    match a with
    | ⟨0, _⟩ => exact Fin.ext (by show 0 + b.val = b.val; omega)
    | ⟨1, _⟩ => exact Fin.ext (by show 0 + y.val = y.val; omega)
    | ⟨2, _⟩ => exact Fin.ext (by show 0 + k.val = k.val; omega)

/-- Exchanging the two image axes of an array of reals. -/
theorem transpose_holds {x : FVec Ideal S4x1024x1024 .f32} {f : ℕ → ℕ → ℕ → ℝ} (h : Holds x f) :
    Holds (transpose S4x1024x1024 [0, 2, 1] x transposes_S4x1024x1024_S4x1024x1024_0_2_1) fun b y k => f b k y := by
  intro b y k
  refine Eq.trans (congrArg x ?_) (h b k y)
  funext a
  match a with
  | ⟨0, _⟩ => rfl
  | ⟨1, _⟩ => rfl
  | ⟨2, _⟩ => rfl

end Cert.RefValue

end
-- ==== Proof.RefValue.lean ====
/-
  The reference's result, entry by entry: the gradient stage read at an index, and the two box passes after it.
-/
module

public import proofs.«01_k».proof.Proof.RefBox
public import proofs.«01_k».proof.Proof.Spec

@[expose] public section

set_option maxRecDepth 16384

noncomputable section

namespace Cert.RefValue

open Cert.ReferenceIdeal Cert.ReferenceIdeal.Gen Cert.Grad
open Idealize.ShloMosaic Idealize.ShloMosaic.TcCoe Idealize.SL.Sem

/-- The images moved one to the right, a zero column entering. -/
def fromLeft (X : FVec Ideal S4x32x1024x1024 .f32) : FVec Ideal S4x32x1024x1024 .f32 :=
  extractStridedSlice S4x32x1024x1024 ![0, 0, 0, 0] (pad S4x32x1024x1025 ![0, 0, 0, 1] ![0, 0, 0, 0] ![0, 0, 0, 0] X
    (sitofp .f32 (constantI S_ 32 0#32)) pads_S4x32x1024x1024_S4x32x1024x1025_000_000_000_100 h_S_)
    slices_S4x32x1024x1025_S4x32x1024x1024_0_0_0_0

/-- The images moved one down, a zero row entering. -/
def fromAbove (X : FVec Ideal S4x32x1024x1024 .f32) : FVec Ideal S4x32x1024x1024 .f32 :=
  extractStridedSlice S4x32x1024x1024 ![0, 0, 0, 0] (pad S4x32x1025x1024 ![0, 0, 1, 0] ![0, 0, 0, 0] ![0, 0, 0, 0] X
    (sitofp .f32 (constantI S_ 32 0#32)) pads_S4x32x1024x1024_S4x32x1025x1024_000_000_100_000 h_S_)
    slices_S4x32x1025x1024_S4x32x1024x1024_0_0_0_0

/-- The sum of the two squared differences. -/
def squares (X : FVec Ideal S4x32x1024x1024 .f32) : FVec Ideal S4x32x1024x1024 .f32 :=
  addf (mulf (subf (fromLeft X) X) (subf (fromLeft X) X)) (mulf (subf (fromAbove X) X) (subf (fromAbove X) X))

/-- The guarded root, summed over the channels. -/
def gradSum (X : FVec Ideal S4x32x1024x1024 .f32) : FVec Ideal S4x1024x1024 .f32 :=
  Host.reduceAdd (Host.divf (squares X) (Host.sqrt (addf (squares X)
    (broadcastInDim S4x32x1024x1024 ![] bcast_S_S4x32x1024x1024 (constant S_ .f32 0x0DA24260#32)))))
    (constant S_ .f32 0x00000000#32) reducesTo_S4x32x1024x1024_S4x1024x1024_d1 h_S_

/-- The reference's result is the gradient stage followed by a box sum along the rows and one along the columns. -/
theorem res_eq (m : (ℓ : Loc nD τ sig) → Buf (Elt Ideal) ℓ) (c : Dev nD) :
    Value.res_main_v29 m c = transpose S4x1024x1024 [0, 2, 1] (boxLast (transpose S4x1024x1024 [0, 2, 1]
      (boxLast (gradSum (m ((c.tc : Thread nD τ).loc main_arg0))))
      transposes_S4x1024x1024_S4x1024x1024_0_2_1)) transposes_S4x1024x1024_S4x1024x1024_0_2_1 := rfl

/-- The left neighbour. -/
theorem fromLeft_apply (X : FVec Ideal S4x32x1024x1024 .f32) (b : Fin 4) (c : Fin 32) (y x : Fin 1024) :
    fromLeft X (ix4 b c y x) = left X b c y x := by
  have hb := b.isLt
  have hc := c.isLt
  have hy := y.isLt
  have hx := x.isLt
  have e : fromLeft X (ix4 b c y x) = pad S4x32x1024x1025 ![0, 0, 0, 1] ![0, 0, 0, 0] ![0, 0, 0, 0] X
      (sitofp .f32 (constantI S_ 32 0#32)) pads_S4x32x1024x1024_S4x32x1024x1025_000_000_000_100 h_S_
      (ix4 b c y (⟨x.val, by omega⟩ : Fin 1025)) := by
    unfold fromLeft
    refine congrArg (pad S4x32x1024x1025 ![0, 0, 0, 1] ![0, 0, 0, 0] ![0, 0, 0, 0] X
      (sitofp .f32 (constantI S_ 32 0#32)) pads_S4x32x1024x1024_S4x32x1024x1025_000_000_000_100 h_S_) (funext fun a => ?_)
    match a with
    | ⟨0, _⟩ => exact Fin.ext (Nat.zero_add _)
    | ⟨1, _⟩ => exact Fin.ext (Nat.zero_add _)
    | ⟨2, _⟩ => exact Fin.ext (Nat.zero_add _)
    | ⟨3, _⟩ => exact Fin.ext (Nat.zero_add _)
  rw [e, pad_apply, pad_zero]
  unfold left
  by_cases h0 : x.val = 0
  · rw [if_pos h0]
    refine dif_neg fun hin => ?_
    have h3 : 1 ≤ x.val ∧ (x.val - 1) % (0 + 1) = 0 ∧ (x.val - 1) / (0 + 1) < 1024 := hin 3
    omega
  · rw [if_neg h0, cell_of hb hc hy (by omega)]
    refine (dif_pos ?_).trans (congrArg X ?_)
    · intro a
      match a with
      | ⟨0, _⟩ => show 0 ≤ b.val ∧ (b.val - 0) % (0 + 1) = 0 ∧ (b.val - 0) / (0 + 1) < 4; omega
      | ⟨1, _⟩ => show 0 ≤ c.val ∧ (c.val - 0) % (0 + 1) = 0 ∧ (c.val - 0) / (0 + 1) < 32; omega
      | ⟨2, _⟩ => show 0 ≤ y.val ∧ (y.val - 0) % (0 + 1) = 0 ∧ (y.val - 0) / (0 + 1) < 1024; omega
      | ⟨3, _⟩ => show 1 ≤ x.val ∧ (x.val - 1) % (0 + 1) = 0 ∧ (x.val - 1) / (0 + 1) < 1024; omega
    · funext a
      match a with
      | ⟨0, _⟩ => exact Fin.ext (by show (b.val - 0) / (0 + 1) = b.val; omega)
      | ⟨1, _⟩ => exact Fin.ext (by show (c.val - 0) / (0 + 1) = c.val; omega)
      | ⟨2, _⟩ => exact Fin.ext (by show (y.val - 0) / (0 + 1) = y.val; omega)
      | ⟨3, _⟩ => exact Fin.ext (by show (x.val - 1) / (0 + 1) = x.val - 1; omega)

/-- The upper neighbour. -/
theorem fromAbove_apply (X : FVec Ideal S4x32x1024x1024 .f32) (b : Fin 4) (c : Fin 32) (y x : Fin 1024) :
    fromAbove X (ix4 b c y x) = upper X b c y x := by
  have hb := b.isLt
  have hc := c.isLt
  have hy := y.isLt
  have hx := x.isLt
  have e : fromAbove X (ix4 b c y x) = pad S4x32x1025x1024 ![0, 0, 1, 0] ![0, 0, 0, 0] ![0, 0, 0, 0] X
      (sitofp .f32 (constantI S_ 32 0#32)) pads_S4x32x1024x1024_S4x32x1025x1024_000_000_100_000 h_S_
      (ix4 b c (⟨y.val, by omega⟩ : Fin 1025) x) := by
    unfold fromAbove
    refine congrArg (pad S4x32x1025x1024 ![0, 0, 1, 0] ![0, 0, 0, 0] ![0, 0, 0, 0] X
      (sitofp .f32 (constantI S_ 32 0#32)) pads_S4x32x1024x1024_S4x32x1025x1024_000_000_100_000 h_S_) (funext fun a => ?_)
    match a with
    | ⟨0, _⟩ => exact Fin.ext (Nat.zero_add _)
    | ⟨1, _⟩ => exact Fin.ext (Nat.zero_add _)
    | ⟨2, _⟩ => exact Fin.ext (Nat.zero_add _)
    | ⟨3, _⟩ => exact Fin.ext (Nat.zero_add _)
  rw [e, pad_apply, pad_zero]
  unfold upper
  by_cases h0 : y.val = 0
  · rw [if_pos h0]
    refine dif_neg fun hin => ?_
    have h2 : 1 ≤ y.val ∧ (y.val - 1) % (0 + 1) = 0 ∧ (y.val - 1) / (0 + 1) < 1024 := hin 2
    omega
  · rw [if_neg h0, cell_of hb hc (by omega) hx]
    refine (dif_pos ?_).trans (congrArg X ?_)
    · intro a
      match a with
      | ⟨0, _⟩ => show 0 ≤ b.val ∧ (b.val - 0) % (0 + 1) = 0 ∧ (b.val - 0) / (0 + 1) < 4; omega
      | ⟨1, _⟩ => show 0 ≤ c.val ∧ (c.val - 0) % (0 + 1) = 0 ∧ (c.val - 0) / (0 + 1) < 32; omega
      | ⟨2, _⟩ => show 1 ≤ y.val ∧ (y.val - 1) % (0 + 1) = 0 ∧ (y.val - 1) / (0 + 1) < 1024; omega
      | ⟨3, _⟩ => show 0 ≤ x.val ∧ (x.val - 0) % (0 + 1) = 0 ∧ (x.val - 0) / (0 + 1) < 1024; omega
    · funext a
      match a with
      | ⟨0, _⟩ => exact Fin.ext (by show (b.val - 0) / (0 + 1) = b.val; omega)
      | ⟨1, _⟩ => exact Fin.ext (by show (c.val - 0) / (0 + 1) = c.val; omega)
      | ⟨2, _⟩ => exact Fin.ext (by show (y.val - 1) / (0 + 1) = y.val - 1; omega)
      | ⟨3, _⟩ => exact Fin.ext (by show (x.val - 0) / (0 + 1) = x.val; omega)

/-- The two squares at an entry. -/
theorem squares_apply (X : FVec Ideal S4x32x1024x1024 .f32) (b : Fin 4) (c : Fin 32) (y x : Fin 1024) :
    squares X (ix4 b c y x) = sq (left X b c y x - cell X b c y x) (upper X b c y x - cell X b c y x) := by
  have hl := fromLeft_apply X b c y x
  have hu := fromAbove_apply X b c y x
  have hX : X (ix4 b c y x) = cell X b c y x := (cell_of b.isLt c.isLt y.isLt x.isLt).symm
  unfold Grad.sq
  rw [← hl, ← hu, ← hX]
  rfl

/-- The gradient stage holds the channel sums of the gradient magnitudes. -/
theorem gradSum_holds (X : FVec Ideal S4x32x1024x1024 .f32) : Holds (gradSum X) (gsum X) := by
  intro b y x
  unfold gradSum
  pointwise
  unfold gsum
  rw [Finset.sum_range, coe_sum]
  refine Finset.sum_congr rfl fun c _ => ?_
  rw [squares_apply, ofBits_eps]
  exact div_sqrt_sq _ _

/-- The reference's result holds the box sums. -/
theorem res_holds (m : (ℓ : Loc nD τ sig) → Buf (Elt Ideal) ℓ) (c : Dev nD) :
    Holds (Value.res_main_v29 m c) (out (m ((c.tc : Thread nD τ).loc main_arg0))) := by
  rw [res_eq]
  exact transpose_holds (boxLast_holds (transpose_holds (boxLast_holds (gradSum_holds _))))

end Cert.RefValue

end
-- ==== Proof.Equation.lean ====
/-
  The five claims: the two programs of the kernel and the reference run and leave their argument and every counter as
  found; the named guard is the printed one; and over the extended reals the kernel's result is the reference's.
-/
module

public import proofs.«01_k».proof.Defs
public import proofs.«01_k».proof.Proof.BitsRun
public import proofs.«01_k».proof.Proof.IdealRun
public import proofs.«01_k».proof.Proof.BoxValue
public import proofs.«01_k».proof.Proof.RefValue
public import Idealize.ShloMosaic.Lib.Claim

@[expose] public section

set_option maxRecDepth 16384

noncomputable section

namespace Cert.Equation

open Idealize.ShloMosaic Idealize.ShloMosaic.TcCoe Idealize.SL.Sem Cert.Grad

/-- The kernel as printed, on words: it ends with its argument and every counter as found. -/
theorem frame_p : Cert.quiescent_Kernel := fun m ρ _ =>
  (θ_run Cert.Kernel.defs _ _).mono (fun _ h => ⟨fun c => (h.1 c).2, h.2⟩) (Cert.Kernel.Run.run (F := Bits) m ρ)

/-- The same of the kernel over the extended reals. -/
theorem frame_pi : Cert.quiescent_KernelIdeal := fun m ρ _ =>
  (θ_run Cert.KernelIdeal.defs _ _).mono (fun _ h => ⟨fun c => (h.1 c).2, h.2⟩) (Cert.KernelIdeal.Run.run (F := Ideal) m ρ)

/-- The same of the reference, which declares no semaphore. -/
theorem frame_ri : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The guard's two printings are the words of its name. -/
theorem preserves : Cert.preserves_Kernel_KernelIdeal :=
  ⟨IdealRules.named_const.statement Cert.KernelIdeal.κ "eps" .bf16 0x0DA2#16
      ((332307 / 332306998946228968225951765070086144 : ℝ) : EReal) rfl,
    IdealRules.named_const.statement Cert.KernelIdeal.κ "eps" .f32 0x0DA24260#32
      ((332307 / 332306998946228968225951765070086144 : ℝ) : EReal) rfl⟩

section Kernel

open Cert.KernelIdeal Cert.KernelIdeal.Gen Cert.KernelIdeal.Run Cert.KernelIdeal.Block

/-- What the kernel's result array holds at the end: the box sums of the channel sums. -/
theorem kernel_result (m) (ρ) (c : Dev nD) :
    W3 (F := Ideal) m ρ c (Proc.devRef .tc main_v11) = boxes (m ((c.tc : Thread nD τ).loc main_arg0)) := by
  refine (W3_arr m ρ c 2).trans (box_array (V2 m ρ) c _ ?_ (band_after _))
  refine (W2_of m ρ c main_v0 (by decide)).trans ?_
  exact (W1_arr m ρ c 2).trans (image_array (V0 m ρ) c)

end Kernel

/-- What the reference's result array holds at the end: the same. -/
theorem reference_result (m) (c : Dev Cert.ReferenceIdeal.nD) :
    (Cert.ReferenceIdeal.Value.res_main_v29 (F := Ideal) m c : Cert.KernelIdeal.S4x1024x1024.Idx → EReal)
      = Cert.KernelIdeal.Block.boxes
          (m ((c.tc : Thread Cert.ReferenceIdeal.nD Cert.ReferenceIdeal.τ).loc Cert.ReferenceIdeal.main_arg0)) := by
  funext i
  rw [ValueIdx.eq_ix3 i]
  exact Cert.RefValue.res_holds m c (i 0) (i 1) (i 2)

/-- Over the extended reals, kernel and reference leave one result. -/
theorem algebraic : Cert.algebraic_KernelIdeal_ReferenceIdeal := by
  intro m ρ m' ρ' _ hagree
  refine ⟨fun c => Cert.KernelIdeal.Block.boxes (m ((c.tc : Thread Cert.KernelIdeal.nD Cert.KernelIdeal.τ).loc Cert.KernelIdeal.main_arg0)), ?_, ?_⟩
  · exact (θ_run Cert.KernelIdeal.defs _ _).mono
      (fun _ h c => ⟨(h.1 c).1.trans (kernel_result m ρ c), (h.1 c).2⟩)
      (Cert.KernelIdeal.Run.run (F := Ideal) m ρ)
  · refine (θ_run Cert.ReferenceIdeal.defs _ _).mono (fun _ h c => ⟨(h c).1.trans ?_, (h c).2⟩)
      (Cert.ReferenceIdeal.Value.run (F := Ideal) m' ρ')
    refine (reference_result m' c).trans ?_
    rw [hagree c]

end Cert.Equation

end
-- ==== Proof.lean ====
/-
  The proof of `Cert.Claim`: the three frames, `preserves` and `algebraic`, each proved in Proof/Equation.lean, behind the
  witnesses of the programs' stated facts.
-/
module

public import proofs.«01_k».proof.Defs
public import proofs.«01_k».proof.Proof.Equation
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- All five claims. -/
theorem claim : Cert.Claim :=
  ⟨Cert.Kernel.Gen.facts, Cert.KernelIdeal.Gen.facts, Cert.ReferenceIdeal.Gen.facts,
    Cert.Equation.frame_p, Cert.Equation.frame_pi, Cert.Equation.frame_ri, Cert.Equation.preserves, Cert.Equation.algebraic⟩

end Cert.Proof

end
